-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts) (hPre_inputs_in_range : Cert.Pre_inputs_in_range.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S1024x200 : Shape := ⟨2, ![1024, 200]⟩
abbrev S1000000x64 : Shape := ⟨2, ![1000000, 64]⟩
abbrev S5000x64 : Shape := ⟨2, ![5000, 64]⟩
abbrev S2x64 : Shape := ⟨2, ![2, 64]⟩
abbrev S64 : Shape := ⟨1, ![64]⟩
abbrev S_ : Shape := ⟨0, ![]⟩

class Facts : Prop where
  bcast_S_S1024x200 : S_.BroadcastsInDim S1024x200 (![] : Fin 0 → Fin S1024x200.rank)
  bcast_S_S1000000x64 : S_.BroadcastsInDim S1000000x64 (![] : Fin 0 → Fin S1000000x64.rank)
  bcast_S_S2x64 : S_.BroadcastsInDim S2x64 (![] : Fin 0 → Fin S2x64.rank)

variable [Facts]

def fn {F : FTy → Type} [FloatOps F] (main_arg0 : IVec S1024x200 32) (main_arg1 : IVec S1024x200 32) (main_arg2 : FVec F S1000000x64 .f32) (main_arg3 : FVec F S5000x64 .f32) (main_arg4 : FVec F S2x64 .f32) (main_arg5 : FVec F S64 .f32) (main_arg6 : FVec F S64 .f32) : IVec S1024x200 1 × IVec S1024x200 1 × IVec S1000000x64 1 × IVec S2x64 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_c_2 : IVec S_ 32 := constantI S_ 32 2#32
  let main_v7 : IVec S1024x200 32 := broadcastInDim S1024x200 ![] bcast_S_S1024x200 main_c_2
  let main_v8 : IVec S1024x200 1 := cmpi .slt main_arg1 main_v7
  let main_v9 : IVec S1024x200 1 := andi main_v6 main_v8
  let main_v10 : FVec F S1000000x64 .f32 := Host.absf main_arg2
  let main_cst : FVec F S_ .f32 := constant S_ .f32 0x7F800000#32
  let main_v11 : FVec F S1000000x64 .f32 := broadcastInDim S1000000x64 ![] bcast_S_S1000000x64 main_cst
  let main_v12 : IVec S1000000x64 1 := cmpf .olt main_v10 main_v11
  let main_v13 : FVec F S2x64 .f32 := Host.absf main_arg4
  let main_cst_3 : FVec F S_ .f32 := constant S_ .f32 0x7F800000#32
  let main_v14 : FVec F S2x64 .f32 := broadcastInDim S2x64 ![] bcast_S_S2x64 main_cst_3
  let main_v15 : IVec S2x64 1 := cmpf .olt main_v13 main_v14
  (main_v4, main_v9, main_v12, main_v15)
-- ==== Pre_tokens_in_vocab.lean ====
abbrev S1024x200 : Shape := ⟨2, ![1024, 200]⟩
abbrev S1000000x64 : Shape := ⟨2, ![1000000, 64]⟩
abbrev S5000x64 : Shape := ⟨2, ![5000, 64]⟩
abbrev S2x64 : Shape := ⟨2, ![2, 64]⟩
abbrev S64 : Shape := ⟨1, ![64]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : IVec S1024x200 32) (main_arg2 : FVec F S1000000x64 .f32) (main_arg3 : FVec F S5000x64 .f32) (main_arg4 : FVec F S2x64 .f32) (main_arg5 : FVec F S64 .f32) (main_arg6 : FVec F S64 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Kernel.lean ====
abbrev S1024x200 : Shape := ⟨2, ![1024, 200]⟩
abbrev S1000000x64 : Shape := ⟨2, ![1000000, 64]⟩
abbrev S5000x64 : Shape := ⟨2, ![5000, 64]⟩
abbrev S2x64 : Shape := ⟨2, ![2, 64]⟩
abbrev S64 : Shape := ⟨1, ![64]⟩
abbrev S_ : Shape := ⟨0, ![]⟩
abbrev S1600x128 : Shape := ⟨2, ![1600, 128]⟩
abbrev S500000x128 : Shape := ⟨2, ![500000, 128]⟩
abbrev S204800x128 : Shape := ⟨2, ![204800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S200x64 : Shape := ⟨2, ![200, 64]⟩
abbrev S1024x200x128 : Shape := ⟨3, ![1024, 200, 128]⟩
abbrev S1x64 : Shape := ⟨2, ![1, 64]⟩
abbrev S1024x200x64 : Shape := ⟨3, ![1024, 200, 64]⟩
abbrev S64x200x128 : Shape := ⟨3, ![64, 200, 128]⟩
abbrev S64x200 : Shape := ⟨2, ![64, 200]⟩
abbrev S64x200x64 : Shape := ⟨3, ![64, 200, 64]⟩
abbrev S64x200x1 : Shape := ⟨3, ![64, 200, 1]⟩
abbrev S1x200x64 : Shape := ⟨3, ![1, 200, 64]⟩
abbrev S1x1x64 : Shape := ⟨3, ![1, 1, 64]⟩

abbrev nBuf : Table → Nat
  | .hbm => 21
  | .local .tc .vmem => 12
  | .local .scVector .vmem => 2
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1000000x64, .f32⟩
  | .hbm, ⟨3, _⟩ => ⟨S5000x64, .f32⟩
  | .hbm, ⟨4, _⟩ => ⟨S2x64, .f32⟩
  | .hbm, ⟨5, _⟩ => ⟨S64, .f32⟩
  | .hbm, ⟨6, _⟩ => ⟨S64, .f32⟩
  | .hbm, ⟨7, _⟩ => ⟨S_, .i32⟩
  | .hbm, ⟨8, _⟩ => ⟨S1024x200, .i32⟩
  | .hbm, ⟨9, _⟩ => ⟨S1024x200, .i32⟩
  | .hbm, ⟨10, _⟩ => ⟨S_, .i32⟩
  | .hbm, ⟨11, _⟩ => ⟨S1024x200, .i32⟩
  | .hbm, ⟨12, _⟩ => ⟨S1024x200, .i32⟩
  | .hbm, ⟨13, _⟩ => ⟨S1600x128, .i32⟩
  | .hbm, ⟨14, _⟩ => ⟨S500000x128, .f32⟩
  | .hbm, ⟨15, _⟩ => ⟨S204800x128, .f32⟩
  | .hbm, ⟨16, _⟩ => ⟨S200x64, .f32⟩
  | .hbm, ⟨17, _⟩ => ⟨S1024x200x128, .f32⟩
  | .hbm, ⟨18, _⟩ => ⟨S1x64, .f32⟩
  | .hbm, ⟨19, _⟩ => ⟨S1x64, .f32⟩
  | .hbm, ⟨20, _⟩ => ⟨S1024x200x64, .f32⟩
  | .local .tc .vmem, ⟨0, _⟩ => ⟨S64x200x128, .f32⟩
  | .local .tc .vmem, ⟨1, _⟩ => ⟨S64x200x128, .f32⟩
  | .local .tc .vmem, ⟨2, _⟩ => ⟨S64x200, .i32⟩
  | .local .tc .vmem, ⟨3, _⟩ => ⟨S64x200, .i32⟩
  | .local .tc .vmem, ⟨4, _⟩ => ⟨S64x200, .i32⟩
  | .local .tc .vmem, ⟨5, _⟩ => ⟨S64x200, .i32⟩
  | .local .tc .vmem, ⟨6, _⟩ => ⟨S200x64, .f32⟩
  | .local .tc .vmem, ⟨7, _⟩ => ⟨S2x64, .f32⟩
  | .local .tc .vmem, ⟨8, _⟩ => ⟨S1x64, .f32⟩
  | .local .tc .vmem, ⟨9, _⟩ => ⟨S1x64, .f32⟩
  | .local .tc .vmem, ⟨10, _⟩ => ⟨S64x200x64, .f32⟩
  | .local .tc .vmem, ⟨11, _⟩ => ⟨S64x200x64, .f32⟩
  | .local .scVector .vmem, ⟨0, _⟩ => ⟨S2x1x128, .i32⟩
  | .local .scVector .vmem, ⟨1, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v5_scv : Ref sig .scVector := ⟨.hbm, 14, rfl⟩
abbrev main_v4_scv : Ref sig .scVector := ⟨.hbm, 13, rfl⟩
abbrev main_v6_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c50_i32_28_r0 : BitVec 32 := 50#32
  let v32_r0 : BitVec 32 := Scalar.addi c0_i32_27_r0 c50_i32_28_r0
  let c1_i32_29_r0 : BitVec 32 := 1#32
  ⟨c0_i32_27_r0, v32_r0, c1_i32_29_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c1_i32_100_r0 : BitVec 32 := 1#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c1_i32_100_r0 v76_r0
  let c0_i32_103_r0 : BitVec 32 := 0#32
  ![v145_r0.toNat, 0]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c1_i32_99_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c1_i32_99_r0 v66_r0
  let c0_i32_103_r0 : BitVec 32 := 0#32
  ![v144_r0.toNat, 0]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1600x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1600x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1600x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1600x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c49_i32_34_r0 : BitVec 32 := 49#32
  let v37_r0 : BitVec 32 := Scalar.select v36_r0 c49_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S204800x128.size a)
theorem k0_off19_inb : ∀ (i : grid0.Coords) (v33_4_r0 : BitVec 32) (k0_hw5 : k0_chk5 i v33_4_r0), ∀ a, (k0_off19 i v33_4_r0) a + S128x128.size a ≤ S204800x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x200 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S200x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S64x200x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1000000x64 : Shape := ⟨2, ![1000000, 64]⟩
abbrev S5000x64 : Shape := ⟨2, ![5000, 64]⟩
abbrev S2x64 : Shape := ⟨2, ![2, 64]⟩
abbrev S64 : Shape := ⟨1, ![64]⟩
abbrev S200 : Shape := ⟨1, ![200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩
abbrev S200x1 : Shape := ⟨2, ![200, 1]⟩
abbrev S1x1 : Shape := ⟨2, ![1, 1]⟩
abbrev S200x64 : Shape := ⟨2, ![200, 64]⟩
abbrev S1x200x64 : Shape := ⟨3, ![1, 200, 64]⟩
abbrev S1x1x64 : Shape := ⟨3, ![1, 1, 64]⟩

abbrev nBuf : Space → Nat
  | .hbm => 125
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1000000x64, .f32⟩
  | .hbm, ⟨3, _⟩ => ⟨S5000x64, .f32⟩
  | .hbm, ⟨4, _⟩ => ⟨S2x64, .f32⟩
  | .hbm, ⟨5, _⟩ => ⟨S64, .f32⟩
  | .hbm, ⟨6, _⟩ => ⟨S64, .f32⟩
  | .hbm, ⟨7, _⟩ => ⟨S200, .i32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x64, .f32⟩
  | .hbm, ⟨27, _⟩ => ⟨S1024x200x64, .i1⟩
  | .hbm, ⟨28, _⟩ => ⟨S_, .f32⟩
  | .hbm, ⟨29, _⟩ => ⟨S1024x200x64, .f32⟩
  | .hbm, ⟨30, _⟩ => ⟨S1024x200x64, .f32⟩
  | .hbm, ⟨31, _⟩ => ⟨S_, .i32⟩
  | .hbm, ⟨32, _⟩ => ⟨S200, .i32⟩
  | .hbm, ⟨33, _⟩ => ⟨S200, .i1⟩
  | .hbm, ⟨34, _⟩ => ⟨S_, .i32⟩
  | .hbm, ⟨35, _⟩ => ⟨S200, .i32⟩
  | .hbm, ⟨36, _⟩ => ⟨S200, .i32⟩
  | .hbm, ⟨37, _⟩ => ⟨S200, .i32⟩
  | .hbm, ⟨38, _⟩ => ⟨S200x1, .i32⟩
  | .hbm, ⟨39, _⟩ => ⟨S1, .i32⟩
  | .hbm, ⟨40, _⟩ => ⟨S_, .i32⟩
  | .hbm, ⟨41, _⟩ => ⟨S200x1, .i32⟩
  | .hbm, ⟨42, _⟩ => ⟨S200x1, .i1⟩
  | .hbm, ⟨43, _⟩ => ⟨S1x1, .i32⟩
  | .hbm, ⟨44, _⟩ => ⟨S200x1, .i32⟩
  | .hbm, ⟨45, _⟩ => ⟨S200x1, .i1⟩
  | .hbm, ⟨46, _⟩ => ⟨S200x1, .i1⟩
  | .hbm, ⟨47, _⟩ => ⟨S_, .i1⟩
  | .hbm, ⟨48, _⟩ => ⟨S200, .i1⟩
  | .hbm, ⟨49, _⟩ => ⟨S200x64, .f32⟩
  | .hbm, ⟨50, _⟩ => ⟨S200x64, .i1⟩
  | .hbm, ⟨51, _⟩ => ⟨S_, .f32⟩
  | .hbm, ⟨52, _⟩ => ⟨S200x64, .f32⟩
  | .hbm, ⟨53, _⟩ => ⟨S200x64, .f32⟩
  | .hbm, ⟨54, _⟩ => ⟨S1x200x64, .f32⟩
  | .hbm, ⟨55, _⟩ => ⟨S1024x200x64, .f32⟩
  | .hbm, ⟨56, _⟩ => ⟨S1024x200x64, .f32⟩
  | .hbm, ⟨57, _⟩ => ⟨S_, .i32⟩
  | .hbm, ⟨58, _⟩ => ⟨S1024x200, .i32⟩
  | .hbm, ⟨59, _⟩ => ⟨S1024x200, .i1⟩
  | .hbm, ⟨60, _⟩ => ⟨S_, .i32⟩
  | .hbm, ⟨61, _⟩ => ⟨S1024x200, .i32⟩
  | .hbm, ⟨62, _⟩ => ⟨S1024x200, .i32⟩
  | .hbm, ⟨63, _⟩ => ⟨S1024x200, .i32⟩
  | .hbm, ⟨64, _⟩ => ⟨S1024x200x1, .i32⟩
  | .hbm, ⟨65, _⟩ => ⟨S1, .i32⟩
  | .hbm, ⟨66, _⟩ => ⟨S_, .i32⟩
  | .hbm, ⟨67, _⟩ => ⟨S1024x200x1, .i32⟩
  | .hbm, ⟨68, _⟩ => ⟨S1024x200x1, .i1⟩
  | .hbm, ⟨69, _⟩ => ⟨S1x1x1, .i32⟩
  | .hbm, ⟨70, _⟩ => ⟨S1024x200x1, .i32⟩
  | .hbm, ⟨71, _⟩ => ⟨S1024x200x1, .i1⟩
  | .hbm, ⟨72, _⟩ => ⟨S1024x200x1, .i1⟩
  | .hbm, ⟨73, _⟩ => ⟨S_, .i1⟩
  | .hbm, ⟨74, _⟩ => ⟨S1024x200, .i1⟩
  | .hbm, ⟨75, _⟩ => ⟨S1024x200x64, .f32⟩
  | .hbm, ⟨76, _⟩ => ⟨S1024x200x64, .i1⟩
  | .hbm, ⟨77, _⟩ => ⟨S_, .f32⟩
  | .hbm, ⟨78, _⟩ => ⟨S1024x200x64, .f32⟩
  | .hbm, ⟨79, _⟩ => ⟨S1024x200x64, .f32⟩
  | .hbm, ⟨80, _⟩ => ⟨S1024x200x64, .f32⟩
  | .hbm, ⟨81, _⟩ => ⟨S_, .f32⟩
  | .hbm, ⟨82, _⟩ => ⟨S1024x200, .f32⟩
  | .hbm, ⟨83, _⟩ => ⟨S1024x200x1, .f32⟩
  | .hbm, ⟨84, _⟩ => ⟨S_, .f32⟩
  | .hbm, ⟨85, _⟩ => ⟨S1024x200x1, .f32⟩
  | .hbm, ⟨86, _⟩ => ⟨S1024x200x1, .f32⟩
  | .hbm, ⟨87, _⟩ => ⟨S_, .i32⟩
  | .hbm, ⟨88, _⟩ => ⟨S_, .f32⟩
  | .hbm, ⟨89, _⟩ => ⟨S1024x200, .f32⟩
  | .hbm, ⟨90, _⟩ => ⟨S1024x200x1, .f32⟩
  | .hbm, ⟨91, _⟩ => ⟨S_, .f32⟩
  | .hbm, ⟨92, _⟩ => ⟨S1024x200x1, .f32⟩
  | .hbm, ⟨93, _⟩ => ⟨S1024x200x1, .f32⟩
  | .hbm, ⟨94, _⟩ => ⟨S1024x200x64, .f32⟩
  | .hbm, ⟨95, _⟩ => ⟨S1024x200x64, .f32⟩
  | .hbm, ⟨96, _⟩ => ⟨S1024x200x64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S1024x200, .f32⟩
  | .hbm, ⟨102, _⟩ => ⟨S1024x200x1, .f32⟩
  | .hbm, ⟨103, _⟩ => ⟨S1024x200x1, .f32⟩
  | .hbm, ⟨104, _⟩ => ⟨S1024x200x1, .f32⟩
  | .hbm, ⟨105, _⟩ => ⟨S_, .f32⟩
  | .hbm, ⟨106, _⟩ => ⟨S_, .i1⟩
  | .hbm, ⟨107, _⟩ => ⟨S_, .f32⟩
  | .hbm, ⟨108, _⟩ => ⟨S_, .f32⟩
  | .hbm, ⟨109, _⟩ => ⟨S1024x200x1, .f32⟩
  | .hbm, ⟨110, _⟩ => ⟨S1024x200x1, .f32⟩
  | .hbm, ⟨111, _⟩ => ⟨S1024x200x64, .f32⟩
  | .hbm, ⟨112, _⟩ => ⟨S1024x200x64, .f32⟩
  | .hbm, ⟨113, _⟩ => ⟨S_, .f32⟩
  | .hbm, ⟨114, _⟩ => ⟨S1024x200x1, .f32⟩
  | .hbm, ⟨115, _⟩ => ⟨S1024x200x1, .f32⟩
  | .hbm, ⟨116, _⟩ => ⟨S1024x200x1, .f32⟩
  | .hbm, ⟨117, _⟩ => ⟨S1024x200x64, .f32⟩
  | .hbm, ⟨118, _⟩ => ⟨S1024x200x64, .f32⟩
  | .hbm, ⟨119, _⟩ => ⟨S1x1x64, .f32⟩
  | .hbm, ⟨120, _⟩ => ⟨S1024x200x64, .f32⟩
  | .hbm, ⟨121, _⟩ => ⟨S1024x200x64, .f32⟩
  | .hbm, ⟨122, _⟩ => ⟨S1x1x64, .f32⟩
  | .hbm, ⟨123, _⟩ => ⟨S1024x200x64, .f32⟩
  | .hbm, ⟨124, _⟩ => ⟨S1024x200x64, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_c : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_cst_3 : Ref sig .tc := ⟨.hbm, 105, rfl⟩
abbrev main_call3_v13 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_cst_1 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩

abbrev nD : Nat := 1
abbrev τ : Topo := Topo.v7x

variable {F : FTy → Type} [FloatOps F]
-- ==== Proof.Offs.lean ====
/-
  The integer side of the gather's pipeline: which block of the list and of the result each trip addresses, which of
  the two slots of each scratch it uses, and when its conditional copies run. A tile `L` owns the fifty consecutive
  blocks from `base L` on; trip `k` gathers block `base L + k`, from slot `k % 2` of the list scratch into slot
  `k % 2` of the row scratch.
-/
module

public import proofs.«01_k».proof.Defs
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- The coordinates of a tile, from its SparseCore and its number there. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a
  match a with
  | 0 => rfl
  | 1 => rfl

/-- The first of the tile's fifty blocks. -/
def base (L : grid0.Coords) : ℕ := ((L 1).val + 16 * (L 0).val) * 50

theorem base_le (L : grid0.Coords) : base L + 50 ≤ 1600 := by
  have h0 : (L 0).val < 2 := (L 0).isLt
  have h1 : (L 1).val < 16 := (L 1).isLt
  unfold base; omega

theorem trips_eq : k0_t1_loop.trips = 50 := by decide

/-- The five words the loop carries, at the head of trip `n`. -/
def arg6 (n : ℕ) : BitVec 32 := BitVec.ofNat 32 (min (n + 1) 50)
def arg7 (n : ℕ) : BitVec 32 := BitVec.ofNat 32 n
def arg9 (n : ℕ) : BitVec 32 := BitVec.ofNat 32 (n - 1)
def arg10 (n : ℕ) : BitVec 32 := BitVec.ofNat 32 (n % 50)
def args (n : ℕ) : BitVec 32 × BitVec 32 × BitVec 32 × BitVec 32 × BitVec 32 := (arg6 n, arg7 n, arg7 n, arg9 n, arg10 n)

/-- The tile's first block as the word the kernel carries. -/
def baseW (i : grid0.Coords) : BitVec 32 :=
  Scalar.muli (Scalar.addi (Scalar.addi 0#32 (Scalar.muli (BitVec.ofNat 32 (i 1).val) 1#32)) (Scalar.muli (BitVec.ofNat 32 (i 0).val) 16#32)) 50#32

section Slots

theorem off1_eq : k0_off1 = ![0, 0, 0] := by decide +kernel
theorem off3_eq : k0_off3 = ![0] := by decide +kernel
theorem off4_eq (n : Fin k0_t1_loop.trips) (h : n.val < 49) : k0_off4 (arg6 n) = ![(n.val + 1) % 2, 0, 0] := by revert n; decide +kernel
theorem off6_eq (n : Fin k0_t1_loop.trips) (h : n.val < 49) : k0_off6 (arg6 n) = ![(n.val + 1) % 2] := by revert n; decide +kernel
theorem off7_eq (n : Fin k0_t1_loop.trips) : k0_off7 (arg7 n) = ![n.val % 2, 0, 0] := by revert n; decide +kernel
theorem off9_eq (n : Fin k0_t1_loop.trips) : k0_off9 (arg7 n) = ![n.val % 2] := by revert n; decide +kernel
theorem off10_eq (n : Fin k0_t1_loop.trips) : k0_off10 (arg7 n) = ![n.val % 2, 0, 0] := by revert n; decide +kernel
theorem off11_eq (n : Fin k0_t1_loop.trips) : k0_off11 (arg7 n) = ![n.val % 2, 0, 0] := by revert n; decide +kernel
theorem off12_eq (n : Fin k0_t1_loop.trips) : k0_off12 (arg7 n) = ![n.val % 2, 0, 0] := by revert n; decide +kernel
theorem off14_eq (n : Fin k0_t1_loop.trips) : k0_off14 (arg7 n) = ![n.val % 2] := by revert n; decide +kernel
theorem off15_eq (n : Fin k0_t1_loop.trips) : k0_off15 (arg9 n) = ![(n.val - 1) % 2, 0, 0] := by revert n; decide +kernel
theorem off17_eq (n : Fin k0_t1_loop.trips) : k0_off17 (arg9 n) = ![(n.val - 1) % 2] := by revert n; decide +kernel
theorem off20_eq : k0_off20 (arg9 50) = ![1] := by decide +kernel
theorem off21_eq : k0_off21 (arg9 50) = ![1, 0, 0] := by decide +kernel
theorem chk2_ok (n : Fin k0_t1_loop.trips) : k0_chk2 (arg7 n) := by
  intro a; rw [off10_eq]; revert a n; decide +kernel
theorem chk3_ok (n : Fin k0_t1_loop.trips) : k0_chk3 (arg7 n) := by
  intro a; rw [off11_eq]; revert a n; decide +kernel
theorem chk4_ok : k0_chk4 (arg9 50) := by unfold k0_chk4; decide +kernel

end Slots

section Blocks

variable (L : grid0.Coords)

theorem off2_eq : k0_off2 L = ![base L, 0] := by
  rw [← coordsV_eta L]; generalize L 0 = c; generalize L 1 = s; revert c s; decide +kernel
theorem off5_eq (n : Fin k0_t1_loop.trips) (h : n.val < 49) : k0_off5 L (arg10 n) = ![base L + (n.val + 1), 0] := by
  rw [← coordsV_eta L]; generalize L 0 = c; generalize L 1 = s; revert c s n; decide +kernel
theorem off8_eq (n : Fin k0_t1_loop.trips) : k0_off8 L (arg10 n) = ![base L + n.val, 0] := by
  rw [← coordsV_eta L]; generalize L 0 = c; generalize L 1 = s; revert c s n; decide +kernel
theorem off13_eq (n : Fin k0_t1_loop.trips) : k0_off13 L (arg10 n) = ![(base L + n.val) * 128, 0] := by
  rw [← coordsV_eta L]; generalize L 0 = c; generalize L 1 = s; revert c s n; decide +kernel
theorem off16_eq (n : Fin k0_t1_loop.trips) (h : 0 < n.val) : k0_off16 L (arg10 n) = ![(base L + (n.val - 1)) * 128, 0] := by
  rw [← coordsV_eta L]; generalize L 0 = c; generalize L 1 = s; revert c s n; decide +kernel
theorem off19_eq : k0_off19 L (arg10 50) = ![(base L + 49) * 128, 0] := by
  rw [← coordsV_eta L]; generalize L 0 = c; generalize L 1 = s; revert c s; decide +kernel
theorem chk5_ok : k0_chk5 L (arg10 50) := by
  intro a; rw [off19_eq]; have := base_le L
  match a with
  | 0 => show (base L + 49) * 128 + 128 ≤ 204800; omega
  | 1 => show 0 + 128 ≤ 128; omega

theorem cond1_iff (n : Fin k0_t1_loop.trips) : k0_cond1 L n (arg10 n) = 1#1 ↔ n.val < 49 := by
  rw [← coordsV_eta L]; generalize L 0 = c; generalize L 1 = s; revert c s n; decide +kernel
theorem cond2_ok (n : Fin k0_t1_loop.trips) : k0_cond2 L n (arg10 n) = 1#1 := by
  rw [← coordsV_eta L]; generalize L 0 = c; generalize L 1 = s; revert c s n; decide +kernel
theorem cond5_ok (n : Fin k0_t1_loop.trips) : k0_cond5 L n (arg10 n) = 1#1 := by
  rw [← coordsV_eta L]; generalize L 0 = c; generalize L 1 = s; revert c s n; decide +kernel
theorem cond7_iff (n : Fin k0_t1_loop.trips) : k0_cond7 L n (arg10 n) = 1#1 ↔ 0 < n.val := by
  rw [← coordsV_eta L]; generalize L 0 = c; generalize L 1 = s; revert c s n; decide +kernel
theorem chk1_ok (n : Fin k0_t1_loop.trips) : k0_chk1 L n (arg6 n) (arg7 n) (arg7 n) (arg9 n) (arg10 n) := by
  have hb := base_le L
  have hn : n.val < 50 := trips_eq ▸ n.isLt
  refine ⟨fun h => ?_, fun h => ?_, fun h => ?_, fun _ => ?_, fun _ => ?_, fun _ => ?_, fun _ => ?_, fun _ => ?_, fun _ => ?_,
    fun h => ?_, fun h => ?_, fun h => ?_⟩ <;> intro a
  · rw [off4_eq n ((cond1_iff L n).mp h)]; fin_cases a <;> simp <;> omega
  · have := (cond1_iff L n).mp h
    rw [off5_eq L n this]; fin_cases a <;> simp; omega
  · rw [off6_eq n ((cond1_iff L n).mp h)]; fin_cases a; simp; omega
  · rw [off7_eq]; fin_cases a <;> simp; omega
  · rw [off8_eq]; fin_cases a <;> simp; omega
  · rw [off9_eq]; fin_cases a; simp; omega
  · rw [off12_eq]; fin_cases a <;> simp; omega
  · rw [off13_eq]; fin_cases a <;> simp; omega
  · rw [off14_eq]; fin_cases a; simp; omega
  · rw [off15_eq]; fin_cases a <;> simp; omega
  · rw [off16_eq L n ((cond7_iff L n).mp h)]; fin_cases a <;> simp; omega
  · rw [off17_eq]; fin_cases a; simp; omega

end Blocks

end Cert.Proof.Gather

end
-- ==== Proof.Views.lean ====
/-
  The memory a tile's transfers name, in coordinates: blocks of the list and of the result, slots of the two scratches,
  and what each copy and the gather leave there. The list's block `n` is its row `n`; the result's block `n` is its 128
  rows from `128 n` on; a scratch's slot is its first coordinate.
-/
module

public import proofs.«01_k».proof.Proof.Offs
public import Idealize.ShloMosaic.Lib.SparseCore.Stream
public import Idealize.ShloMosaic.Lib.Pointwise.Index

@[expose] public section

noncomputable section

namespace Cert.Proof.Gather

open Cert.KernelIdeal Cert.KernelIdeal.Gen
open Idealize.ShloMosaic

variable {F : FTy → Type}

abbrev iV : Memref sig .scVector .hbm S1600x128 .i32 := Memref.whole main_v4_scv
abbrev tV : Memref sig .scVector .hbm S500000x128 .f32 := Memref.whole main_v5_scv
abbrev oV : Memref sig .scVector .hbm S204800x128 .f32 := Memref.whole main_v6_scv
abbrev sV : Memref sig .scVector .vmem S2x1x128 .i32 := Memref.whole cc0_scoped0
abbrev rV : Memref sig .scVector .vmem S2x128x128 .f32 := Memref.whole cc0_scoped2

/-! ## The slices the kernel takes, at any offsets -/

abbrev iB (off : Fin 2 → ℕ) (h : ∀ a, off a + S1x128.size a ≤ S1600x128.size a) : Memref sig .scVector .hbm S1x128 .i32 :=
  iV.slice (Rect.unit (s := S1600x128) off S1x128.size h) (fun _ => rfl)
abbrev oB (off : Fin 2 → ℕ) (h : ∀ a, off a + S128x128.size a ≤ S204800x128.size a) : Memref sig .scVector .hbm S128x128 .f32 :=
  oV.slice (Rect.unit (s := S204800x128) off S128x128.size h) (fun _ => rfl)
abbrev sS (off : Fin 3 → ℕ) (h : ∀ a, off a + S1x1x128.size a ≤ S2x1x128.size a) : Memref sig .scVector .vmem S1x128 .i32 :=
  (sV.slice (Rect.unit (s := S2x1x128) off S1x1x128.size h) (fun _ => rfl)).squeeze S1x128 squeezes_S1x1x128_S1x128
abbrev rS (off : Fin 3 → ℕ) (h : ∀ a, off a + S1x128x128.size a ≤ S2x128x128.size a) : Memref sig .scVector .vmem S128x128 .f32 :=
  (rV.slice (Rect.unit (s := S2x128x128) off S1x128x128.size h) (fun _ => rfl)).squeeze S128x128 squeezes_S1x128x128_S128x128
abbrev lS (off : Fin 3 → ℕ) (h : ∀ a, off a + S1x1x128.size a ≤ S2x1x128.size a) : Memref sig .scVector .vmem S128 .i32 :=
  ((sS off h).slice (Rect.unit (s := S1x128) ![0, 0] S1x128.size inb_S1x128_S1x128_0_0) (fun _ => rfl)).squeeze S128 squeezes_S1x128_S128
abbrev tA : Memref sig .scVector .hbm S500000x128 .f32 :=
  tV.slice (Rect.unit (s := S500000x128) ![0, 0] S500000x128.size inb_S500000x128_S500000x128_0_0) (fun _ => rfl)

/-! ## Their elements -/

def iBlk (n : ℕ) : Finset S1600x128.Idx := Finset.univ.filter fun y => (y 0).val = n
def oBlk (n : ℕ) : Finset S204800x128.Idx := Finset.univ.filter fun y => (y 0).val / 128 = n
def sSlot (p : ℕ) : Finset S2x1x128.Idx := Finset.univ.filter fun y => (y 0).val = p
def rSlot (p : ℕ) : Finset S2x128x128.Idx := Finset.univ.filter fun y => (y 0).val = p

theorem forall_fin_three {p : Fin 3 → Prop} : (∀ a, p a) ↔ p 0 ∧ p 1 ∧ p 2 :=
  ⟨fun h => ⟨h 0, h 1, h 2⟩, fun h a => match a with | 0 => h.1 | 1 => h.2.1 | 2 => h.2.2⟩

variable {n p : ℕ}

theorem set_iB {off : Fin 2 → ℕ} {h} (e : off = ![n, 0]) : (iB off h).view.set = iBlk n := by
  subst e
  show ((View.whole (main_v4_scv : Ref sig .scVector)).slice _).set = _
  rw [View.set_slice_whole]
  ext y
  have h1 : (y 1).val < 128 := (y 1).isLt
  rw [Rect.mem_set_unit]
  simp only [iBlk, Finset.mem_filter, Finset.mem_univ, true_and]
  refine (Fin.forall_fin_two (p := fun a : Fin 2 => _)).trans ?_
  show (n ≤ (y 0).val ∧ (y 0).val < n + 1) ∧ (0 ≤ (y 1).val ∧ (y 1).val < 0 + 128) ↔ _
  omega

theorem set_oB {off : Fin 2 → ℕ} {h} (e : off = ![n * 128, 0]) : (oB off h).view.set = oBlk n := by
  subst e
  show ((View.whole (main_v6_scv : Ref sig .scVector)).slice _).set = _
  rw [View.set_slice_whole]
  ext y
  have h1 : (y 1).val < 128 := (y 1).isLt
  rw [Rect.mem_set_unit]
  simp only [oBlk, Finset.mem_filter, Finset.mem_univ, true_and]
  refine (Fin.forall_fin_two (p := fun a : Fin 2 => _)).trans ?_
  show (n * 128 ≤ (y 0).val ∧ (y 0).val < n * 128 + 128) ∧ (0 ≤ (y 1).val ∧ (y 1).val < 0 + 128) ↔ _
  omega

theorem set_sS {off : Fin 3 → ℕ} {h} (e : off = ![p, 0, 0]) : (sS off h).view.set = sSlot p := by
  subst e
  show (((View.whole (cc0_scoped0 : Ref sig .scVector)).slice _).reshape _ _).set = _
  rw [View.set_reshape, View.set_slice_whole]
  ext y
  have h1 : (y 1).val < 1 := (y 1).isLt
  have h2 : (y 2).val < 128 := (y 2).isLt
  rw [Rect.mem_set_unit]
  simp only [sSlot, Finset.mem_filter, Finset.mem_univ, true_and]
  refine (forall_fin_three (p := fun a : Fin 3 => _)).trans ?_
  show (p ≤ (y 0).val ∧ (y 0).val < p + 1) ∧ (0 ≤ (y 1).val ∧ (y 1).val < 0 + 1) ∧ (0 ≤ (y 2).val ∧ (y 2).val < 0 + 128) ↔ _
  omega

theorem set_rS {off : Fin 3 → ℕ} {h} (e : off = ![p, 0, 0]) : (rS off h).view.set = rSlot p := by
  subst e
  show (((View.whole (cc0_scoped2 : Ref sig .scVector)).slice _).reshape _ _).set = _
  rw [View.set_reshape, View.set_slice_whole]
  ext y
  have h1 : (y 1).val < 128 := (y 1).isLt
  have h2 : (y 2).val < 128 := (y 2).isLt
  rw [Rect.mem_set_unit]
  simp only [rSlot, Finset.mem_filter, Finset.mem_univ, true_and]
  refine (forall_fin_three (p := fun a : Fin 3 => _)).trans ?_
  show (p ≤ (y 0).val ∧ (y 0).val < p + 1) ∧ (0 ≤ (y 1).val ∧ (y 1).val < 0 + 128) ∧ (0 ≤ (y 2).val ∧ (y 2).val < 0 + 128) ↔ _
  omega

theorem set_lS {off : Fin 3 → ℕ} {h} (e : off = ![p, 0, 0]) : (lS off h).view.set = sSlot p := by
  show ((((sS off h).view).slice _).reshape _ _).set = _
  rw [View.set_reshape, View.set_slice, ← set_sS (h := h) e]
  have : (Rect.unit (s := S1x128) ![0, 0] S1x128.size inb_S1x128_S1x128_0_0).set = Finset.univ := by
    ext y
    have h1 : (y 0).val < 1 := (y 0).isLt
    have h2 : (y 1).val < 128 := (y 1).isLt
    rw [Rect.mem_set_unit]
    simp only [Finset.mem_univ, iff_true, Fin.forall_fin_two]
    show (0 ≤ (y 0).val ∧ (y 0).val < 0 + 1) ∧ (0 ≤ (y 1).val ∧ (y 1).val < 0 + 128)
    omega
  rw [this]; rfl

theorem set_tA : tA.view.set = Finset.univ := by
  show ((View.whole (main_v5_scv : Ref sig .scVector)).slice _).set = _
  rw [View.set_slice_whole]
  ext y
  have h1 : (y 0).val < 500000 := (y 0).isLt
  have h2 : (y 1).val < 128 := (y 1).isLt
  rw [Rect.mem_set_unit]
  simp only [Finset.mem_univ, iff_true]
  refine (Fin.forall_fin_two (p := fun a : Fin 2 => _)).mpr ?_
  show (0 ≤ (y 0).val ∧ (y 0).val < 0 + 500000) ∧ (0 ≤ (y 1).val ∧ (y 1).val < 0 + 128)
  omega

/-! ## Where an element of a slice lies -/

theorem emb_iB {off : Fin 2 → ℕ} {h} (e : off = ![n, 0]) (x : S1x128.Idx) :
    (((iB off h).view.emb x) 0).val = n ∧ (((iB off h).view.emb x) 1).val = (x 1).val := by
  subst e
  have h0 : (x 0).val < 1 := (x 0).isLt
  constructor
  · show n + 1 * (x 0).val = n; omega
  · show 0 + 1 * (x 1).val = _; omega

theorem emb_oB {off : Fin 2 → ℕ} {h} (e : off = ![n * 128, 0]) (x : S128x128.Idx) :
    (((oB off h).view.emb x) 0).val = n * 128 + (x 0).val ∧ (((oB off h).view.emb x) 1).val = (x 1).val := by
  subst e
  constructor
  · show n * 128 + 1 * (x 0).val = _; omega
  · show 0 + 1 * (x 1).val = _; omega

theorem emb_sS {off : Fin 3 → ℕ} {h} (e : off = ![p, 0, 0]) (x : S1x128.Idx) :
    (((sS off h).view.emb x) 0).val = p ∧ (((sS off h).view.emb x) 2).val = (x 1).val := by
  subst e
  have hr : Shape.reshapeEquiv (squeezes_S1x1x128_S1x128).numel_eq x = (Fin.cons ⟨0, Nat.one_pos⟩ x : S1x1x128.Idx) :=
    Shape.reshapeEquiv_cons_one _ x
  constructor
  · show p + 1 * ((Shape.reshapeEquiv (squeezes_S1x1x128_S1x128).numel_eq x) 0).val = p
    rw [hr]; show p + 1 * 0 = p; omega
  · show 0 + 1 * ((Shape.reshapeEquiv (squeezes_S1x1x128_S1x128).numel_eq x) 2).val = _
    rw [hr]
    show 0 + 1 * (x 1).val = _; omega

theorem emb_rS {off : Fin 3 → ℕ} {h} (e : off = ![p, 0, 0]) (x : S128x128.Idx) :
    (((rS off h).view.emb x) 0).val = p ∧ (((rS off h).view.emb x) 1).val = (x 0).val ∧ (((rS off h).view.emb x) 2).val = (x 1).val := by
  subst e
  have hr : Shape.reshapeEquiv (squeezes_S1x128x128_S128x128).numel_eq x = (Fin.cons ⟨0, Nat.one_pos⟩ x : S1x128x128.Idx) :=
    Shape.reshapeEquiv_cons_one _ x
  refine ⟨?_, ?_, ?_⟩
  · show p + 1 * ((Shape.reshapeEquiv (squeezes_S1x128x128_S128x128).numel_eq x) 0).val = p
    rw [hr]; show p + 1 * 0 = p; omega
  · show 0 + 1 * ((Shape.reshapeEquiv (squeezes_S1x128x128_S128x128).numel_eq x) 1).val = _
    rw [hr]
    show 0 + 1 * (x 0).val = _; omega
  · show 0 + 1 * ((Shape.reshapeEquiv (squeezes_S1x128x128_S128x128).numel_eq x) 2).val = _
    rw [hr]
    show 0 + 1 * (x 1).val = _; omega

theorem emb_lS {off : Fin 3 → ℕ} {h} (e : off = ![p, 0, 0]) (x : S128.Idx) :
    (((lS off h).view.emb x) 0).val = p ∧ (((lS off h).view.emb x) 2).val = (x 0).val := by
  have hr : Shape.reshapeEquiv (squeezes_S1x128_S128).numel_eq x = (Fin.cons ⟨0, Nat.one_pos⟩ x : S1x128.Idx) :=
    Shape.reshapeEquiv_cons_one _ x
  have := emb_sS (h := h) e ((Rect.unit (s := S1x128) ![0, 0] S1x128.size inb_S1x128_S1x128_0_0).emb
    (Shape.reshapeEquiv (squeezes_S1x128_S128).numel_eq x))
  refine ⟨this.1, this.2.trans ?_⟩
  rw [hr]
  show 0 + 1 * (x 0).val = _; omega

theorem emb_tA (x : S500000x128.Idx) : tA.view.emb x = x := by
  funext a; apply Fin.ext
  match a with
  | 0 => show 0 + 1 * (x 0).val = _; omega
  | 1 => show 0 + 1 * (x 1).val = _; omega

/-! ## What the transfers leave -/

/-- The table row a word of the list names (the first row, should the word name none). -/
def rowF (w : Elt F .i32) : Fin 500000 := if h : BitVec.toNat w < 500000 then ⟨BitVec.toNat w, h⟩ else ⟨0, by decide⟩

/-- The list's row `n`, as either slot of the list scratch holds it. -/
def fI (idx : S1600x128.Idx → Elt F .i32) (n : Fin 1600) : S2x1x128.Idx → Elt F .i32 := fun y => idx (ix2 n (y 2))

/-- The table rows the list's row `n` names, as either slot of the row scratch holds them. -/
def fR (idx : S1600x128.Idx → Elt F .i32) (tb : S500000x128.Idx → Elt F .f32) (n : Fin 1600) : S2x128x128.Idx → Elt F .f32 :=
  fun y => tb (ix2 (rowF (F := F) (idx (ix2 n (y 1)))) (y 2))

/-- The gathered array: row `r` is the table row that the `r`-th word of the list names. -/
def gO (idx : S1600x128.Idx → Elt F .i32) (tb : S500000x128.Idx → Elt F .f32) : S204800x128.Idx → Elt F .f32 :=
  fun y => tb (ix2 (rowF (F := F) (idx (ix2 (n0 := 1600) (n1 := 128) ⟨(y 0).val / 128, by have h : (y 0).val < 204800 := (y 0).isLt; omega⟩
    ⟨(y 0).val % 128, Nat.mod_lt _ (by decide)⟩))) (y 1))

variable (idx : S1600x128.Idx → Elt F .i32) (tb : S500000x128.Idx → Elt F .f32)

/-- A fetch of the list's row `n` into slot `p` leaves that row there. -/
theorem fetch_lands {offs : Fin 3 → ℕ} {hs} (es : offs = ![p, 0, 0]) {offb : Fin 2 → ℕ} {hb} (hn : n < 1600) (eb : offb = ![n, 0])
    (fd : S2x1x128.Idx → Elt F .i32) (y : S2x1x128.Idx) (hy : y ∈ sSlot p) :
    (sS offs hs).view.write (Elt F) fd ((iB offb hb).view.read (Elt F) idx) Finset.univ y = fI idx ⟨n, hn⟩ y := by
  rw [← set_sS (h := hs) es] at hy
  obtain ⟨x, -, rfl⟩ := Finset.mem_map.mp hy
  rw [View.write_emb_of_mem _ _ (Finset.mem_univ x), View.read_apply]
  refine (cast_eq _ _).trans ((cast_eq _ _).trans ?_)
  show idx _ = idx _
  congr 1
  funext a; apply Fin.ext
  match a with
  | 0 => exact (emb_iB (h := hb) eb x).1
  | 1 => exact (emb_iB (h := hb) eb x).2.trans (emb_sS (h := hs) es x).2.symm

/-- The list a gather reads from slot `p`: the list's row `n`. -/
theorem read_list {offs : Fin 3 → ℕ} {hs} (es : offs = ![p, 0, 0]) (n : Fin 1600) (x : S128.Idx) :
    (lS offs hs).view.read (Elt F) (fI idx n) x = idx (ix2 n (x 0)) := by
  rw [View.read_apply]
  refine (cast_eq _ _).trans ?_
  show idx _ = idx _
  congr 1
  funext a; apply Fin.ext
  match a with
  | 0 => rfl
  | 1 => exact (emb_lS (h := hs) es x).2

theorem list_in {offs : Fin 3 → ℕ} {hs} (es : offs = ![p, 0, 0]) (n : Fin 1600) (hidx : ∀ j, (idx j).toNat < 500000) (x : S128.Idx) :
    ((lS offs hs).view.read (Elt F) (fI idx n) x).toNat < S500000x128.size gathers_S500000x128_S128x128.axis := by
  rw [read_list idx es]; exact hidx _

/-- A gather through the list's row `n` into slot `q` leaves the table rows it names there. -/
theorem gather_lands {offs : Fin 3 → ℕ} {hs} (es : offs = ![p, 0, 0]) {q : ℕ} {offr : Fin 3 → ℕ} {hr} (er : offr = ![q, 0, 0])
    (n : Fin 1600) (hn) (hin) (fd : S2x128x128.Idx → Elt F .f32) (y : S2x128x128.Idx) (hy : y ∈ rSlot q) :
    (rS offr hr).view.write (Elt F) fd (SparseCore.gatherPayload gathers_S500000x128_S128x128 (tA.view.read (Elt F) tb)
      (SparseCore.rows ((lS offs hs).view.read (Elt F) (fI idx n)) hn hin)) Finset.univ y = fR idx tb n y := by
  rw [← set_rS (h := hr) er] at hy
  obtain ⟨x, -, rfl⟩ := Finset.mem_map.mp hy
  rw [View.write_emb_of_mem _ _ (Finset.mem_univ x)]
  refine (cast_eq _ _).trans ?_
  unfold SparseCore.gatherPayload
  rw [View.read_apply]
  refine (cast_eq _ _).trans ?_
  rw [emb_tA]
  show tb _ = tb _
  have hx : (S128.rowMajor.symm ((x 0).cast hn.symm)) 0 = x 0 := Fin.ext (by
    have := Shape.rowMajor_val_one (S128.rowMajor.symm ((x 0).cast hn.symm))
    rw [← this]; exact congrArg Fin.val (S128.rowMajor.apply_symm_apply _))
  have hw := read_list idx (hs := hs) es n (S128.rowMajor.symm ((x 0).cast hn.symm))
  rw [hx] at hw
  have hlt : ((idx (ix2 n (x 0))) : BitVec 32).toNat < 500000 := hw ▸ hin _
  have hy1 : ((rS offr hr).view.emb x) 1 = x 0 := Fin.ext (emb_rS (h := hr) er x).2.1
  congr 1
  funext a; apply Fin.ext
  match a with
  | 0 =>
    refine (congrArg Fin.val (Shape.Gathers.idx_axis gathers_S500000x128_S128x128 _ x)).trans ?_
    show ((lS offs hs).view.read (Elt F) (fI idx n) (S128.rowMajor.symm ((x 0).cast hn.symm))).toNat
      = (rowF (F := F) (idx (ix2 n (((rS offr hr).view.emb x) 1)))).val
    rw [hw, hy1, rowF, dif_pos hlt]
  | 1 =>
    refine (Shape.Gathers.idx_of_ne gathers_S500000x128_S128x128 _ x 1 (by decide)).trans ?_
    exact (emb_rS (h := hr) er x).2.2.symm

/-- Slot `p`, holding the rows block `n` names, written to the result's block `n`: the gathered array there. -/
theorem store_lands {offr : Fin 3 → ℕ} {hr} (er : offr = ![p, 0, 0]) {offb : Fin 2 → ℕ} {hb} (hn : n < 1600) (eb : offb = ![n * 128, 0])
    (fd : S204800x128.Idx → Elt F .f32) (y : S204800x128.Idx) (hy : y ∈ oBlk n) :
    (oB offb hb).view.write (Elt F) fd ((rS offr hr).view.read (Elt F) (fR idx tb ⟨n, hn⟩)) Finset.univ y = gO idx tb y := by
  rw [← set_oB (h := hb) eb] at hy
  obtain ⟨x, -, rfl⟩ := Finset.mem_map.mp hy
  rw [View.write_emb_of_mem _ _ (Finset.mem_univ x), View.read_apply]
  refine (cast_eq _ _).trans ((cast_eq _ _).trans ?_)
  have h0 : (x 0).val < 128 := (x 0).isLt
  obtain ⟨o0, o1⟩ := emb_oB (h := hb) eb x
  obtain ⟨-, r1, r2⟩ := emb_rS (h := hr) er x
  show tb _ = tb _
  congr 1
  have hi : ix2 (n0 := 1600) (n1 := 128) ⟨n, hn⟩ (((rS offr hr).view.emb x) 1)
      = ix2 (n0 := 1600) (n1 := 128) ⟨(((oB offb hb).view.emb x) 0).val / 128, by have h : (((oB offb hb).view.emb x) 0).val < 204800 := (((oB offb hb).view.emb x) 0).isLt; omega⟩
        ⟨(((oB offb hb).view.emb x) 0).val % 128, Nat.mod_lt _ (by decide)⟩ := by
    refine (ix2_inj (n0 := 1600) (n1 := 128) _ _ _ _).mpr ⟨Fin.ext ?_, Fin.ext ?_⟩
    · show n = (((oB offb hb).view.emb x) 0).val / 128
      rw [o0]; omega
    · show (((rS offr hr).view.emb x) 1).val = (((oB offb hb).view.emb x) 0).val % 128
      rw [o0, r1]; omega
  funext a; apply Fin.ext
  match a with
  | 0 => show (rowF (F := F) (idx _)).val = (rowF (F := F) (idx _)).val; rw [hi]
  | 1 => exact r2.trans o1.symm

end Cert.Proof.Gather

end
-- ==== Proof.Setup.lean ====
/-
  The launch as the proof sees it: the label signature with its one TensorCore pipeline, the SparseCore call, the ghost
  state (the handshakes' rounds, the pipeline's rounds, the transfers' counters) and names for the memory the tiles use.
-/
module

public import proofs.«01_k».proof.Proof.Views
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL
/-- Where the pipeline's rounds lie. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by
  unfold EP; infer_instance

/-! ## The memory -/

abbrev iLoc (d : Dev nD) : Loc nD τ sig := (SparseCore.T d).loc main_v4
abbrev tLoc (d : Dev nD) : Loc nD τ sig := (SparseCore.T d).loc main_v5
abbrev oLoc (d : Dev nD) : Loc nD τ sig := (SparseCore.T d).loc main_v6

abbrev cV (L : grid0.Coords) : Fin τ.nSC := (L 0).castLE hcore0
abbrev jV (L : grid0.Coords) : Fin τ.nSub := (L 1).castLE hsub0
/-- The tile `(L 0, L 1)` of device `d`. -/
abbrev thr (d : Dev nD) (L : grid0.Coords) : Thread nD τ := V d (cV L) (jV L)
abbrev sLoc (d : Dev nD) (L : grid0.Coords) : Loc nD τ sig := (thr d L).loc cc0_scoped0
abbrev rLoc (d : Dev nD) (L : grid0.Coords) : Loc nD τ sig := (thr d L).loc cc0_scoped2

/-! ## The semaphores, by slot -/

abbrev dS (off : Fin 1 → ℕ) (h : ∀ a, off a + S1.size a ≤ S2.size a) : DmaSem sig :=
  ((cc0_scoped1.slice (Rect.unit (s := S2) off S1.size h)).squeeze S_ squeezes_S1_S_).sem
abbrev dR (off : Fin 1 → ℕ) (h : ∀ a, off a + S1.size a ≤ S2.size a) : DmaSem sig :=
  ((cc0_scoped3.slice (Rect.unit (s := S2) off S1.size h)).squeeze S_ squeezes_S1_S_).sem

theorem slot_inb (p : ℕ) (hp : p < 2) : ∀ a, (![p] : Fin 1 → ℕ) a + S1.size a ≤ S2.size a
  | 0 => by show p + 1 ≤ 2; omega

/-- The list scratch's semaphore of slot `p % 2`, -/
def semS (p : ℕ) : DmaSem sig := dS ![p % 2] (slot_inb _ (Nat.mod_lt _ (by decide)))
/-- the row scratch's, -/
def semR (p : ℕ) : DmaSem sig := dR ![p % 2] (slot_inb _ (Nat.mod_lt _ (by decide)))
/-- and the gather's. -/
abbrev semG : DmaSem sig := cc0_scoped4.sem

theorem dS_eq {off : Fin 1 → ℕ} {h} {p : ℕ} (e : off = ![p % 2]) : dS off h = semS p := by subst e; rfl
theorem dR_eq {off : Fin 1 → ℕ} {h} {p : ℕ} (e : off = ![p % 2]) : dR off h = semR p := by subst e; rfl

/-! ## Runs of blocks -/

/-- The list's blocks from `lo` up to `hi`. -/
def iRng (lo hi : ℕ) : Finset S1600x128.Idx := Finset.univ.filter fun y => lo ≤ (y 0).val ∧ (y 0).val < hi
/-- The result's. -/
def oRng (lo hi : ℕ) : Finset S204800x128.Idx := Finset.univ.filter fun y => lo ≤ (y 0).val / 128 ∧ (y 0).val / 128 < hi

theorem iRng_split {a b c : ℕ} (h₁ : a ≤ b) (h₂ : b ≤ c) : iRng a c = iRng a b ∪ iRng b c := by
  ext y; simp only [iRng, Finset.mem_union, Finset.mem_filter, Finset.mem_univ, true_and]; omega
theorem iRng_disj (a b c : ℕ) : Disjoint (iRng a b) (iRng b c) := by
  rw [Finset.disjoint_left]; intro y; simp only [iRng, Finset.mem_filter, Finset.mem_univ, true_and]; omega
theorem iRng_one (n : ℕ) : iRng n (n + 1) = iBlk n := by
  ext y; simp only [iRng, iBlk, Finset.mem_filter, Finset.mem_univ, true_and]; omega
theorem iRng_nil (n : ℕ) : iRng n n = ∅ := by
  ext y; simp only [iRng, Finset.mem_filter, Finset.mem_univ, true_and, Finset.notMem_empty, iff_false]; omega
theorem oRng_split {a b c : ℕ} (h₁ : a ≤ b) (h₂ : b ≤ c) : oRng a c = oRng a b ∪ oRng b c := by
  ext y; simp only [oRng, Finset.mem_union, Finset.mem_filter, Finset.mem_univ, true_and]; omega
theorem oRng_disj (a b c : ℕ) : Disjoint (oRng a b) (oRng b c) := by
  rw [Finset.disjoint_left]; intro y; simp only [oRng, Finset.mem_filter, Finset.mem_univ, true_and]; omega
theorem oRng_one (n : ℕ) : oRng n (n + 1) = oBlk n := by
  ext y; simp only [oRng, oBlk, Finset.mem_filter, Finset.mem_univ, true_and]; omega
theorem oRng_nil (n : ℕ) : oRng n n = ∅ := by
  ext y; simp only [oRng, Finset.mem_filter, Finset.mem_univ, true_and, Finset.notMem_empty, iff_false]; omega

theorem pts_iRng {d : Dev nD} {q : PosShare TreeShare} {f : Buf (Elt F) (iLoc d)} {a b c : ℕ} (h₁ : a ≤ b) (h₂ : b ≤ c) :
    (iLoc d ↦[iRng a c]{q} f : sProp 𝕄) = iprop((iLoc d ↦[iRng a b]{q} f) ∗ iLoc d ↦[iRng b c]{q} f) := by
  rw [iRng_split h₁ h₂]
  exact BI.Entails.antisymm (pointsTo_union (iRng_disj a b c)).1 (pointsTo_union (iRng_disj a b c)).2
theorem pts_oRng {d : Dev nD} {q : PosShare TreeShare} {f : Buf (Elt F) (oLoc d)} {a b c : ℕ} (h₁ : a ≤ b) (h₂ : b ≤ c) :
    (oLoc d ↦[oRng a c]{q} f : sProp 𝕄) = iprop((oLoc d ↦[oRng a b]{q} f) ∗ oLoc d ↦[oRng b c]{q} f) := by
  rw [oRng_split h₁ h₂]
  exact BI.Entails.antisymm (pointsTo_union (oRng_disj a b c)).1 (pointsTo_union (oRng_disj a b c)).2

end Cert.Proof.Gather

end
-- ==== Proof.Steps.lean ====
/-
  One step of a tile at a time: each transfer the tile starts and each wait for one, over the memory in coordinates.
-/
module

public import proofs.«01_k».proof.Proof.Setup

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (idx : Buf (Elt F) (iLoc d)) (tb : Buf (Elt F) (tLoc d)) (o₀ : Buf (Elt F) (oLoc d)) (q : PosShare TreeShare)

/-! ## The memory the memrefs name is the memory in coordinates -/

omit [FloatOps F] in
theorem pts_iB {n : ℕ} {off : Fin 2 → ℕ} {h} (e : off = ![n, 0]) (q : PosShare TreeShare) (f : Buf (Elt F) (iLoc d)) :
    ((iB off h).view.loc (thr d L) ↦[(iB off h).view.set]{q} f : sProp 𝕄) = iLoc d ↦[iBlk n]{q} f := by
  rw [set_iB e]
omit [FloatOps F] in
theorem pts_oB {n : ℕ} {off : Fin 2 → ℕ} {h} (e : off = ![n * 128, 0]) (q : PosShare TreeShare) (f : Buf (Elt F) (oLoc d)) :
    ((oB off h).view.loc (thr d L) ↦[(oB off h).view.set]{q} f : sProp 𝕄) = oLoc d ↦[oBlk n]{q} f := by
  rw [set_oB e]
omit [FloatOps F] in
theorem pts_sS {p : ℕ} {off : Fin 3 → ℕ} {h} (e : off = ![p, 0, 0]) (q : PosShare TreeShare) (f : Buf (Elt F) (sLoc d L)) :
    ((sS off h).view.loc (thr d L) ↦[(sS off h).view.set]{q} f : sProp 𝕄) = sLoc d L ↦[sSlot p]{q} f := by
  rw [set_sS e]
omit [FloatOps F] in
theorem pts_rS {p : ℕ} {off : Fin 3 → ℕ} {h} (e : off = ![p, 0, 0]) (q : PosShare TreeShare) (f : Buf (Elt F) (rLoc d L)) :
    ((rS off h).view.loc (thr d L) ↦[(rS off h).view.set]{q} f : sProp 𝕄) = rLoc d L ↦[rSlot p]{q} f := by
  rw [set_rS e]
omit [FloatOps F] in
theorem pts_lS {p : ℕ} {off : Fin 3 → ℕ} {h} (e : off = ![p, 0, 0]) (q : PosShare TreeShare) (f : Buf (Elt F) (sLoc d L)) :
    ((lS off h).view.loc (thr d L) ↦[(lS off h).view.set]{q} f : sProp 𝕄) = sLoc d L ↦[sSlot p]{q} f := by
  rw [set_lS e]
omit [FloatOps F] in
theorem pts_tA (q : PosShare TreeShare) (f : Buf (Elt F) (tLoc d)) :
    (tA.view.loc (thr d L) ↦[tA.view.set]{q} f : sProp 𝕄) = tLoc d ↦{q} f := by
  rw [set_tA]

/-! ## What each transfer in flight delivers -/

/-- Slot `p`'s list scratch with block `n` of the list, and that block back. -/
abbrev FetchD (p : ℕ) (n : Fin 1600) : sProp 𝕄 :=
  iprop((sLoc d L ↦[sSlot (p % 2)]{fullShare} fI (F := F) idx n) ∗ iLoc d ↦[iBlk n.val]{fullShare} idx)
/-- Slot `p`'s rows and the share of the table and the list they came by. -/
abbrev GatherD (p : ℕ) (n : Fin 1600) : sProp 𝕄 :=
  iprop((rLoc d L ↦[rSlot (p % 2)]{fullShare} fR (F := F) idx tb n) ∗ (tLoc d ↦{q} tb)
    ∗ sLoc d L ↦[sSlot (p % 2)]{fullShare} fI (F := F) idx n)
/-- The result's block `n` written, and slot `p`'s rows back. -/
abbrev StoreD (p : ℕ) (n : Fin 1600) : sProp 𝕄 :=
  iprop((oLoc d ↦[oBlk n.val]{fullShare} gO (F := F) idx tb) ∗ rLoc d L ↦[rSlot (p % 2)]{fullShare} fR (F := F) idx tb n)

abbrev NS : ℕ := (sS ![0, 0, 0] (by decide)).view.dmaCredit
abbrev NO : ℕ := (oB ![0, 0] (by decide)).view.dmaCredit
abbrev NR : ℕ := (rS ![0, 0, 0] (by decide)).view.dmaCredit

theorem NS_pos : 0 < NS := by decide
theorem NO_pos : 0 < NO := by decide
theorem NR_pos : 0 < NR := by decide

abbrev FetchF (p : ℕ) (n : Fin 1600) : sProp 𝕄 :=
  Transfers.Flight countersEmb (thr d L) (SemLoc.dma (semS p)) (default : HIx 1) NS (FetchD d L idx p n)
abbrev GatherF (p : ℕ) (n : Fin 1600) : sProp 𝕄 :=
  Transfers.Flight countersEmb (thr d L) (SemLoc.dma semG) (default : HIx 1) NR (GatherD d L idx tb q p n)
abbrev StoreF (p : ℕ) (n : Fin 1600) : sProp 𝕄 :=
  Transfers.Flight countersEmb (thr d L) (SemLoc.dma (semR p)) (default : HIx 1) NO (StoreD d L idx tb p n)

variable {α : Type}

/-! ## The steps -/

theorem fetch_step {Q : α → sProp 𝕄} {p n : ℕ} (hn : n < 1600) {offs : Fin 3 → ℕ} {hs} (es : offs = ![p % 2, 0, 0])
    {offb : Fin 2 → ℕ} {hb} (eb : offb = ![n, 0]) {offm : Fin 1 → ℕ} {hm} (em : offm = ![p % 2])
    {hsrc hdst hsem} {k : PUnit → Prog (TpuEff nD τ sig (Elt F) Λ₀ (thr d L).2) α} (fd : Buf (Elt F) (sLoc d L)) :
    iprop((iLoc d ↦[iBlk n]{fullShare} idx) ∗ (sLoc d L ↦[sSlot (p % 2)]{fullShare} fd) ∗ semVal (thr d L, SemLoc.dma (semS p)) 0)
      ⊢ iprop((FetchF d L idx p ⟨n, hn⟩ -∗ wp frame (wpE (defs₀ (F := F)) 𝒱₀ (thr d L) none) Set.univ (k ⟨⟩) Q)
          -∗ wp frame (wpE (defs₀ (F := F)) 𝒱₀ (thr d L) none) Set.univ
            (.op (.enqueueDma (iB offb hb) (.here (sS offs hs)) (.dma (dS offm hm)) hsrc hdst hsem) k) Q) := by
  have hS : SemLoc.dma (sig := sig) (dS offm hm) = SemLoc.dma (semS p) := by rw [dS_eq em]
  have hmono : iprop(((sS offs hs).view.loc (thr d L) ↦[(sS offs hs).view.set]{fullShare} (sS offs hs).view.write (Elt F) fd ((iB offb hb).view.read (Elt F) idx) Finset.univ)
      ∗ ((iB offb hb).view.loc (thr d L) ↦[(iB offb hb).view.set]{fullShare} idx)) ⊢ (FetchD d L idx p ⟨n, hn⟩ : sProp 𝕄) := by
    rw [pts_iB (F := F) d L (h := hb) eb, pts_sS (F := F) d L (h := hs) es]
    exact sep_mono (Entails.of_eq (pointsTo_congr (fun y hy => fetch_lands (F := F) idx (hs := hs) es (hb := hb) hn eb fd y hy))) .rfl
  iintro ⟨Hi, Hs, Hv⟩ Hk
  ihave Hi := (Entails.of_eq (pts_iB (F := F) d L (h := hb) eb _ _).symm) $$ Hi
  ihave Hs := (Entails.of_eq (pts_sS (F := F) d L (h := hs) es _ _).symm) $$ Hs
  have H := (Transfers.wp_dmaLocal countersEmb 𝒱₀ (thr d L) none (src := iB offb hb) (dst := sS offs hs) (via := ReadAs.same)
    (sm := .dma (dS offm hm)) (hsrc := hsrc) (hdst := hdst) (hsem := hsem)
    (fs := idx) (fd := fd) (q := fullShare) (default : HIx 1) NS rfl NS_pos (Finset.Subset.refl _) (defs := defs₀ (F := F)) (k := k) (Q := Q))
  iapply H $$ [Hi Hs Hv]
  · isplitl [Hi]; · iexact Hi
    isplitl [Hs]; · iexact Hs
    iapply (Entails.of_eq (show (semVal (thr d L, SemLoc.dma (semS p)) 0 : sProp 𝕄) = semVal (thr d L, SemLoc.dma (dS offm hm)) 0 by rw [hS])); iexact Hv
  iintro HF
  iapply Hk
  iapply (Entails.of_eq (show (Transfers.Flight countersEmb (thr d L) (SemLoc.dma (dS offm hm)) (default : HIx 1) NS (FetchD d L idx p ⟨n, hn⟩) : sProp 𝕄)
    = FetchF d L idx p ⟨n, hn⟩ by rw [hS]))
  iapply (Transfers.Flight_mono (EC := countersEmb) (c := thr d L) (hmono)) $$ HF

theorem store_step {Q : α → sProp 𝕄} {p n : ℕ} (hn : n < 1600) {offr : Fin 3 → ℕ} {hr} (er : offr = ![p % 2, 0, 0])
    {offb : Fin 2 → ℕ} {hb} (eb : offb = ![n * 128, 0]) {offm : Fin 1 → ℕ} {hm} (em : offm = ![p % 2])
    {hsrc hdst hsem} {k : PUnit → Prog (TpuEff nD τ sig (Elt F) Λ₀ (thr d L).2) α} (fd : Buf (Elt F) (oLoc d)) :
    iprop((rLoc d L ↦[rSlot (p % 2)]{fullShare} fR (F := F) idx tb ⟨n, hn⟩) ∗ (oLoc d ↦[oBlk n]{fullShare} fd) ∗ semVal (thr d L, SemLoc.dma (semR p)) 0)
      ⊢ iprop((StoreF d L idx tb p ⟨n, hn⟩ -∗ wp frame (wpE (defs₀ (F := F)) 𝒱₀ (thr d L) none) Set.univ (k ⟨⟩) Q)
          -∗ wp frame (wpE (defs₀ (F := F)) 𝒱₀ (thr d L) none) Set.univ
            (.op (.enqueueDma (rS offr hr) (.here (oB offb hb)) (.dma (dR offm hm)) hsrc hdst hsem) k) Q) := by
  have hS : SemLoc.dma (sig := sig) (dR offm hm) = SemLoc.dma (semR p) := by rw [dR_eq em]
  have hmono : iprop(((oB offb hb).view.loc (thr d L) ↦[(oB offb hb).view.set]{fullShare} (oB offb hb).view.write (Elt F) fd
        ((rS offr hr).view.read (Elt F) (fR (F := F) idx tb ⟨n, hn⟩)) Finset.univ)
      ∗ ((rS offr hr).view.loc (thr d L) ↦[(rS offr hr).view.set]{fullShare} fR (F := F) idx tb ⟨n, hn⟩)) ⊢ (StoreD d L idx tb p ⟨n, hn⟩ : sProp 𝕄) := by
    rw [pts_oB (F := F) d L (h := hb) eb, pts_rS (F := F) d L (h := hr) er]
    exact sep_mono (Entails.of_eq (pointsTo_congr (fun y hy => store_lands (F := F) idx tb (hr := hr) er (hb := hb) hn eb fd y hy))) .rfl
  iintro ⟨Hr, Ho, Hv⟩ Hk
  ihave Ho := (Entails.of_eq (pts_oB (F := F) d L (h := hb) eb _ _).symm) $$ Ho
  ihave Hr := (Entails.of_eq (pts_rS (F := F) d L (h := hr) er _ _).symm) $$ Hr
  have H := (Transfers.wp_dmaLocal countersEmb 𝒱₀ (thr d L) none (src := rS offr hr) (dst := oB offb hb) (via := ReadAs.same)
    (sm := .dma (dR offm hm)) (hsrc := hsrc) (hdst := hdst) (hsem := hsem)
    (fs := fR (F := F) idx tb ⟨n, hn⟩) (fd := fd) (q := fullShare) (default : HIx 1) NO rfl NO_pos (Finset.Subset.refl _) (defs := defs₀ (F := F)) (k := k) (Q := Q))
  iapply H $$ [Hr Ho Hv]
  · isplitl [Hr]; · iexact Hr
    isplitl [Ho]; · iexact Ho
    iapply (Entails.of_eq (show (semVal (thr d L, SemLoc.dma (semR p)) 0 : sProp 𝕄) = semVal (thr d L, SemLoc.dma (dR offm hm)) 0 by rw [hS])); iexact Hv
  iintro HF
  iapply Hk
  iapply (Entails.of_eq (show (Transfers.Flight countersEmb (thr d L) (SemLoc.dma (dR offm hm)) (default : HIx 1) NO (StoreD d L idx tb p ⟨n, hn⟩) : sProp 𝕄)
    = StoreF d L idx tb p ⟨n, hn⟩ by rw [hS]))
  iapply (Transfers.Flight_mono (EC := countersEmb) (c := thr d L) hmono) $$ HF

theorem gather_credit {off : Fin 3 → ℕ} {hr} :
    ∀ h : S500000x128.Gathers 0 S128x128, ∑ j, ((rS off hr).slice (S128x128.rowRect h.axis' j) (S128x128.stride_rowRect h.axis' j)).view.dmaCredit = NR := by
  intro h
  exact (show ∀ h : S500000x128.Gathers 0 S128x128, ∑ j, ((rS ![0, 0, 0] (by decide)).slice (S128x128.rowRect h.axis' j) (S128x128.stride_rowRect h.axis' j)).view.dmaCredit = NR
    by decide +kernel) h

theorem gather_step {Q : α → sProp 𝕄} {p : ℕ} {n : Fin 1600} (hidx : ∀ j, (idx j).toNat < 500000) {offs : Fin 3 → ℕ} {hs} (es : offs = ![p % 2, 0, 0])
    {offr : Fin 3 → ℕ} {hr} (er : offr = ![p % 2, 0, 0])
    {hp hn hsrc he hsp hrow} {k : PUnit → Prog (TpuEff nD τ sig (Elt F) Λ₀ (thr d L).2) α} (fd : Buf (Elt F) (rLoc d L)) :
    iprop((tLoc d ↦{q} tb) ∗ (rLoc d L ↦[rSlot (p % 2)]{fullShare} fd) ∗ (sLoc d L ↦[sSlot (p % 2)]{fullShare} fI (F := F) idx n)
        ∗ semVal (thr d L, SemLoc.dma semG) 0)
      ⊢ iprop((GatherF d L idx tb q p n -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hp tA (rS offr hr) gathers_S500000x128_S128x128 (lS offs hs) hn semG hsrc he hsp hrow >>= k) Q) := by
  have hin := list_in (F := F) idx (hs := hs) es n hidx
  have hmono : iprop(((rS offr hr).view.loc (thr d L) ↦[(rS offr hr).view.set]{fullShare} (rS offr hr).view.write (Elt F) fd
        (SparseCore.gatherPayload gathers_S500000x128_S128x128 (tA.view.read (Elt F) tb)
          (SparseCore.rows ((lS offs hs).view.read (Elt F) (fI (F := F) idx n)) hn hin)) Finset.univ)
      ∗ (tA.view.loc (thr d L) ↦[tA.view.set]{q} tb)
      ∗ ((lS offs hs).view.loc (thr d L) ↦[(lS offs hs).view.set]{fullShare} fI (F := F) idx n)) ⊢ (GatherD d L idx tb q p n : sProp 𝕄) := by
    rw [pts_tA (F := F) d L, pts_rS (F := F) d L (h := hr) er, pts_lS (F := F) d L (h := hs) es]
    exact sep_mono (Entails.of_eq (pointsTo_congr (fun y hy => gather_lands (F := F) idx tb (hs := hs) es (hr := hr) er n hn hin fd y hy))) .rfl
  iintro ⟨Ht, Hr, Hs, Hv⟩ Hk
  ihave Ht := (Entails.of_eq (pts_tA (F := F) d L _ _).symm) $$ Ht
  ihave Hr := (Entails.of_eq (pts_rS (F := F) d L (h := hr) er _ _).symm) $$ Hr
  ihave Hs := (Entails.of_eq (pts_lS (F := F) d L (h := hs) es _ _).symm) $$ Hs
  have H := (SparseCore.wp_indirectGatherLocal countersEmb 𝒱₀ (thr d L) none (src := tA) (dst := rS offr hr) (hg := gathers_S500000x128_S128x128)
    (offs := lS offs hs) (hn := hn) (sem := semG) (hp := hp) (hsrc := hsrc) (he := he) (hsp := hsp) (hr := hrow)
    (fs := tb) (fd := fd) (fo := fI (F := F) idx n) (q := q) (qo := fullShare) (default : HIx 1) NR (gather_credit _) (by decide) hin
    (defs := defs₀ (F := F)) (k := k) (Q := Q))
  iapply H $$ [Ht Hr Hs Hv]
  · isplitl [Ht]; · iexact Ht
    isplitl [Hr]; · iexact Hr
    isplitl [Hs]; · iexact Hs
    iexact Hv
  iintro HF
  iapply Hk
  iapply (Transfers.Flight_mono (EC := countersEmb) (c := thr d L) hmono) $$ HF

/-- What the tile still owes: as at the start, its own waits apart. -/
def Owed (O : CellTallies nD τ sig (HIx 1)) (W : Waits sig (HIx 1)) : sProp 𝕄 :=
  iprop(∃ W', ⌜∀ p ∈ W', p ∈ W ∨ p.2 = none⌝ ∗ owes (thr d L) O W')

theorem wait_step {Q : α → sProp 𝕄} {O : CellTallies nD τ sig (HIx 1)} {W : Waits sig (HIx 1)} {sp sp' : Space} {s s' : Shape} {e e' : EltTy}
    {sem sem' : DmaSem sig} (hsm : sem = sem') {srcw : Memref sig (thr d L).2.kind sp' s' e'} {dstw : Memref sig (thr d L).2.kind sp s e}
    {hsrc : srcw.view.WordExact} {hdst : dstw.view.WordExact} {N : ℕ} (hN : dstw.view.dmaCredit = N) {R : sProp 𝕄}
    {k : PUnit → Prog (TpuEff nD τ sig (Elt F) Λ₀ (thr d L).2) α} :
    iprop(Transfers.Flight countersEmb (thr d L) (SemLoc.dma sem') (default : HIx 1) N R ∗ Owed (F := F) d L O W
        ∗ Transfers.MayWaits (thr d L) (default : HIx 1) O)
      ⊢ iprop((iprop(R ∗ semVal (thr d L, SemLoc.dma sem') 0 ∗ Owed (F := F) d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  subst hsm
  unfold Owed
  iintro ⟨HF, ⟨%W', %hW', HO⟩, Hmw⟩ Hk
  iapply (Transfers.wp_waitLocalO countersEmb 𝒱₀ (thr d L) none (default : HIx 1) hN) $$ [HF HO Hmw]
  · isplitl [HF]; · iexact HF
    isplitl [HO]; · iexact HO
    iapply (Transfers.MayWaits.elim (SemLoc.dma sem)) $$ Hmw
  iintro ⟨HR, Hv, HO⟩
  iapply Hk
  isplitl [HR]; · iexact HR
  isplitl [Hv]; · iexact Hv
  iexists _; isplitr
  swap; · iexact HO
  ipureintro; intro p hp
  rcases Finset.mem_insert.mp hp with hp | hp; · exact .inr (hp ▸ rfl)
  exact hW' p hp

end Cert.Proof.Gather

end
-- ==== Proof.Trip.lean ====
/-
  One trip of a tile's loop. At the head of trip `n`: the list's block `n` is on its way into its slot, the block before
  it is on its way out of the other slot, the blocks before that are written. The trip starts the next fetch, waits for
  its own, gathers and waits, starts its store, and waits for the store before.
-/
module

public import proofs.«01_k».proof.Proof.Steps
public import proofs.«01_k».proof.Proof.Gen.KernelIdeal.Skeleton

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The words a trip computes -/

section Words

variable (L : grid0.Coords) (n : Fin k0_t1_loop.trips)

abbrev w5 : BitVec 32 := Scf.iv 0#32 1#32 n.val
abbrev w64 : BitVec 1 := Scalar.cmpi .eq (w5 n) 0#32
abbrev w65 : BitVec 1 := Scalar.cmpi .eq (w5 n) 49#32
abbrev w66 : BitVec 32 := Scalar.addi (arg10 n) (baseW L)
abbrev w71 : BitVec 32 := Scalar.addi (Scalar.select (Scalar.cmpi .eq (Scalar.select 1#1 (Scalar.subi (arg10 n) 1#32) (arg10 n)) 4294967295#32) 49#32
  (Scalar.select 1#1 (Scalar.subi (arg10 n) 1#32) (arg10 n))) (baseW L)
abbrev w76 : BitVec 32 := Scalar.addi (Scalar.select (Scalar.cmpi .eq (Scalar.select 1#1 (Scalar.addi (arg10 n) 1#32) (arg10 n)) 50#32) 0#32
  (Scalar.select 1#1 (Scalar.addi (arg10 n) 1#32) (arg10 n))) (baseW L)
abbrev w91 : BitVec 32 := Scalar.select (Scalar.andi (Scalar.andi (Scalar.cmpi .ne (w66 L n) (w76 L n)) (Scalar.xori (Scalar.cmpi .sge (w5 n) 49#32) 1#1)) 1#1)
  (Scalar.addi (arg6 n) 1#32) (arg6 n)
abbrev w96 : BitVec 1 := Scalar.cmpi .ne (w66 L n) (w71 L n)
abbrev w116 : BitVec 1 := Scalar.ori (Scalar.cmpi .ne (w66 L n) (w76 L n)) (w65 n)
abbrev w121 : BitVec 32 := Scalar.select (Scalar.andi (w116 L n) 1#1) (Scalar.addi (arg7 n) 1#32) (arg7 n)
abbrev w130 : BitVec 1 := Scalar.andi (Scalar.cmpi .ne (w66 L n) (w71 L n)) (Scalar.xori (w64 n) 1#1)
abbrev w135 : BitVec 32 := Scalar.select (Scalar.andi (w130 L n) 1#1) (Scalar.addi (arg9 n) 1#32) (arg9 n)
abbrev w139 : BitVec 32 := Scalar.select (w116 L n) (Scalar.addi (arg7 n) 1#32) (arg7 n)
abbrev w143 : BitVec 32 := Scalar.select (Scalar.cmpi .eq (Scalar.select 1#1 (Scalar.addi (arg10 n) 1#32) (arg10 n)) 50#32) 0#32
  (Scalar.select 1#1 (Scalar.addi (arg10 n) 1#32) (arg10 n))

/-- The words a trip yields are the next trip's. -/
theorem next_args : (w91 L n, w139 L n, w121 L n, w135 L n, w143 n) = args (n.val + 1) := by
  rw [← coordsV_eta L]; generalize L 0 = c; generalize L 1 = s; revert c s n; decide +kernel

end Words

variable (d : Dev nD) (L : grid0.Coords)
variable (idx : Buf (Elt F) (iLoc d)) (tb : Buf (Elt F) (tLoc d)) (o₀ : Buf (Elt F) (oLoc d)) (q : PosShare TreeShare)

/-! ## A trip's state -/

theorem blk_lt {k : ℕ} (h : k < 50) : base L + k < 1600 := by have := base_le L; omega

/-- Slot `p` of the list scratch, nothing on its way to it. -/
def FreeS (p : ℕ) : sProp 𝕄 := iprop((∃ f, sLoc d L ↦[sSlot (p % 2)]{fullShare} f) ∗ semVal (thr d L, SemLoc.dma (semS p)) 0)
/-- Slot `p` of the row scratch, nothing on its way from it. -/
def FreeR (p : ℕ) : sProp 𝕄 := iprop((∃ f, rLoc d L ↦[rSlot (p % 2)]{fullShare} f) ∗ semVal (thr d L, SemLoc.dma (semR p)) 0)

theorem semS_congr {p p' : ℕ} (h : p % 2 = p' % 2) : semS p = semS p' := dS_eq (p := p') (by rw [h])
theorem semR_congr {p p' : ℕ} (h : p % 2 = p' % 2) : semR p = semR p' := dR_eq (p := p') (by rw [h])
theorem FreeS_congr {p p' : ℕ} (h : p % 2 = p' % 2) : (FreeS d L p : sProp 𝕄) = FreeS d L p' := by
  unfold FreeS; rw [h, semS_congr h]
theorem FreeR_congr {p p' : ℕ} (h : p % 2 = p' % 2) : (FreeR d L p : sProp 𝕄) = FreeR d L p' := by
  unfold FreeR; rw [h, semR_congr h]

/-- The fetch for trip `k`, if there is such a trip. -/
def Fetching (k : ℕ) : sProp 𝕄 := if h : k < 50 then FetchF d L idx k ⟨base L + k, blk_lt L h⟩ else FreeS d L k
/-- The store of trip `k - 1`, if there was such a trip. -/
def Storing (k : ℕ) : sProp 𝕄 :=
  if h : 0 < k ∧ k ≤ 50 then StoreF d L idx tb (k - 1) ⟨base L + (k - 1), blk_lt L (by omega)⟩ else FreeR d L (k + 1)

theorem Storing_pos {k : ℕ} (h : 0 < k ∧ k ≤ 50) :
    (Storing d L idx tb k : sProp 𝕄) = StoreF d L idx tb (k - 1) ⟨base L + (k - 1), blk_lt L (by omega)⟩ := dif_pos h
theorem Storing_neg {k : ℕ} (h : ¬(0 < k ∧ k ≤ 50)) : (Storing d L idx tb k : sProp 𝕄) = FreeR d L (k + 1) := dif_neg h

/-- The state at the head of trip `k`. -/
def Inv (O : CellTallies nD τ sig (HIx 1)) (W : Waits sig (HIx 1)) (k : ℕ) (acc : BitVec 32 × BitVec 32 × BitVec 32 × BitVec 32 × BitVec 32) : sProp 𝕄 :=
  iprop(⌜acc = args k⌝ ∗ Transfers.MayWaits (thr d L) (default : HIx 1) O ∗ Owed (F := F) d L O W
    ∗ (tLoc d ↦{q} tb) ∗ semVal (thr d L, SemLoc.dma semG) 0
    ∗ (iLoc d ↦[iRng (base L) (base L + k)]{fullShare} idx) ∗ (iLoc d ↦[iRng (base L + (k + 1)) (base L + 50)]{fullShare} idx)
    ∗ Fetching d L idx k ∗ FreeS d L (k + 1)
    ∗ FreeR d L k ∗ Storing d L idx tb k
    ∗ (oLoc d ↦[oRng (base L) (base L + (k - 1))]{fullShare} gO (F := F) idx tb) ∗ (oLoc d ↦[oRng (base L + k) (base L + 50)]{fullShare} o₀))

theorem credit_sS {off : Fin 3 → ℕ} {h} : (sS off h).view.dmaCredit = NS := rfl
theorem credit_rS {off : Fin 3 → ℕ} {h} : (rS off h).view.dmaCredit = NR := rfl
theorem credit_oB {off : Fin 2 → ℕ} {h} : (oB off h).view.dmaCredit = NO := rfl

/-! ## The trip's three parts -/

variable {α : Type}

theorem trips_lt (n : Fin k0_t1_loop.trips) : n.val < 50 := trips_eq ▸ n.isLt

/-- The next trip's fetch starts. -/
theorem part1_run {Q : α → sProp 𝕄} (n : Fin k0_t1_loop.trips) {k : _ → Prog (TpuEff nD τ sig (Elt F) Λ₀ (thr d L).2) α} :
    iprop((iLoc d ↦[iRng (base L + (n.val + 1)) (base L + 50)]{fullShare} idx) ∗ FreeS d L (n.val + 1))
      ⊢ iprop((iprop((iLoc d ↦[iRng (base L + (n.val + 2)) (base L + 50)]{fullShare} idx) ∗ Fetching d L idx (n.val + 1))
            -∗ wp frame (wpE (defs₀ (F := F)) 𝒱₀ (thr d L) none) Set.univ
              (k ⟨chk3_ok n, chk2_ok n, chk1_ok L n, w5 n, w64 n, w65 n, w66 L n, w71 L n, w76 L n, w91 L n, w96 L n⟩) Q)
          -∗ wp frame (wpE (defs₀ (F := F)) 𝒱₀ (thr d L) none) Set.univ
      (k0_part1 L tV (Memref.isWhole_whole _) iV (Memref.isWhole_whole _) oV (Memref.isWhole_whole _) sV (Memref.isWhole_whole _)
        cc0_scoped1 rV (Memref.isWhole_whole _) cc0_scoped3 cc0_scoped4 (baseW L) 0#32 1#32 n (arg6 n) (arg7 n) (arg7 n) (arg9 n) (arg10 n) >>= k) Q) := by
  have hn := trips_lt n
  rw [k0_part1_eq_skeleton]; unfold k0_part1_skel
  simp only [Prog.lift, Prog.bind_op, Prog.bind_ret]
  rw [wp_assume_of 𝒱₀ _ _ _ (chk3_ok n), wp_assume_of 𝒱₀ _ _ _ (chk2_ok n), wp_assume_of 𝒱₀ _ _ _ (chk1_ok L n)]
  by_cases h : n.val < 49
  · rw [dif_pos ((cond1_iff L n).mpr h)]
    simp only [Prog.bind_op, Prog.bind_ret]
    unfold Fetching
    rw [dif_pos (show n.val + 1 < 50 by omega), pts_iRng (b := base L + (n.val + 2)) (by omega) (by omega),
      show iRng (base L + (n.val + 1)) (base L + (n.val + 2)) = iBlk (base L + (n.val + 1)) from iRng_one _]
    unfold FreeS
    iintro ⟨⟨Hi, Hir⟩, ⟨%f, Hs⟩, Hv⟩ Hk
    iapply (fetch_step (F := F) d L idx (p := n.val + 1) (blk_lt L (k := n.val + 1) (by omega)) (off4_eq n h) (off5_eq L n h) (off6_eq n h) f) $$ [Hi Hs Hv]
    · isplitl [Hi]; · iexact Hi
      isplitl [Hs]; · iexact Hs
      iexact Hv
    iintro HF
    iapply Hk
    isplitl [Hir]; · iexact Hir
    iexact HF
  · rw [dif_neg (fun h' => h ((cond1_iff L n).mp h'))]
    unfold Fetching
    rw [dif_neg (show ¬ n.val + 1 < 50 by omega)]
    have e : n.val = 49 := by omega
    have hr : ∀ a, 49 ≤ a → iRng (base L + (a + 1)) (base L + 50) = ∅ := fun a ha => by
      ext y; simp only [iRng, Finset.mem_filter, Finset.mem_univ, true_and, Finset.notMem_empty, iff_false]; omega
    rw [hr n.val (by omega), hr (n.val + 1) (by omega)]
    iintro ⟨Hi, Hs⟩ Hk
    iapply Hk
    isplitl [Hi]; · iexact Hi
    iexact Hs

/-- Its own fetch ends; the gather starts and ends. -/
theorem part2_run {Q : α → sProp 𝕄} (hidx : ∀ j, (idx j).toNat < 500000) {O : CellTallies nD τ sig (HIx 1)} {W : Waits sig (HIx 1)}
    (n : Fin k0_t1_loop.trips) {k : _ → Prog (TpuEff nD τ sig (Elt F) Λ₀ (thr d L).2) α} :
    iprop(Transfers.MayWaits (thr d L) (default : HIx 1) O ∗ Owed (F := F) d L O W ∗ (tLoc d ↦{q} tb) ∗ semVal (thr d L, SemLoc.dma semG) 0
        ∗ Fetching d L idx n.val ∗ FreeR d L n.val)
      ⊢ iprop((iprop(Owed (F := F) d L O W ∗ (tLoc d ↦{q} tb) ∗ semVal (thr d L, SemLoc.dma semG) 0
                ∗ (iLoc d ↦[iBlk (base L + n.val)]{fullShare} idx) ∗ FreeS d L n.val
                ∗ (rLoc d L ↦[rSlot (n.val % 2)]{fullShare} fR (F := F) idx tb ⟨base L + n.val, blk_lt L (trips_lt n)⟩) ∗ semVal (thr d L, SemLoc.dma (semR n.val)) 0)
            -∗ wp frame (wpE (defs₀ (F := F)) 𝒱₀ (thr d L) none) Set.univ (k ⟨⟩) Q)
          -∗ wp frame (wpE (defs₀ (F := F)) 𝒱₀ (thr d L) none) Set.univ
      (k0_part2 L tV (Memref.isWhole_whole _) iV (Memref.isWhole_whole _) oV (Memref.isWhole_whole _) sV (Memref.isWhole_whole _)
        cc0_scoped1 rV (Memref.isWhole_whole _) cc0_scoped3 cc0_scoped4 n (arg6 n) (arg7 n) (arg7 n) (arg9 n) (arg10 n)
        (chk3_ok n) (chk2_ok n) (chk1_ok L n) (w5 n) (w64 n) (w65 n) (w66 L n) (w71 L n) (w76 L n) (w96 L n) >>= k) Q) := by
  have hn := trips_lt n
  rw [k0_part2_eq_skeleton]; unfold k0_part2_skel
  simp only [Prog.lift, Prog.bind_op, Prog.bind_ret]
  rw [dif_pos (cond2_ok L n)]
  simp only [Prog.bind_op, Prog.bind_ret, ite_self]
  unfold Fetching
  rw [dif_pos hn]
  iintro ⟨#Hmw, HO, Ht, Hg, HF, HR⟩ Hk
  iapply (wait_step (F := F) d L (O := O) (W := W) (dS_eq (off9_eq n)) (dstw := sS (k0_off7 (arg7 n)) (k0_off7_inb L n (arg6 n) (arg7 n) (arg7 n) (arg9 n) (arg10 n) (chk1_ok L n) (cond2_ok L n))) (N := NS) credit_sS) $$ [HF HO]
  · isplitl [HF]; · iexact HF
    isplitl [HO]; · iexact HO
    iexact Hmw
  iintro ⟨⟨Hs, Hi⟩, Hsv, HO⟩
  simp only [Prog.pure_eq_ret, Prog.bind_ret, ite_self, Prog.bind_assoc]
  unfold FreeR
  icases HR with ⟨⟨%fr, Hr⟩, Hrv⟩
  iapply (gather_step (F := F) d L idx tb q (p := n.val) (n := ⟨base L + n.val, blk_lt L hn⟩) hidx (off11_eq n) (off10_eq n) fr) $$ [Ht Hr Hs Hg]
  · isplitl [Ht]; · iexact Ht
    isplitl [Hr]; · iexact Hr
    isplitl [Hs]; · iexact Hs
    iexact Hg
  iintro HF
  unfold SparseCore.waitIndirectGather
  simp only [Prog.bind_op, Prog.bind_ret]
  iapply (wait_step (F := F) d L (O := O) (W := W) rfl (dstw := rS (k0_off10 (arg7 n)) (k0_off10_inb (arg7 n) (chk2_ok n))) (N := NR) credit_rS) $$ [HF HO]
  · isplitl [HF]; · iexact HF
    isplitl [HO]; · iexact HO
    iexact Hmw
  iintro ⟨⟨Hr, Ht, Hs⟩, Hg, HO⟩
  simp only [Prog.pure_eq_ret, Prog.bind_ret, ite_self]
  iapply Hk
  isplitl [HO]; · iexact HO
  isplitl [Ht]; · iexact Ht
  isplitl [Hg]; · iexact Hg
  isplitl [Hi]; · iexact Hi
  isplitl [Hs Hsv]
  · unfold FreeS
    isplitl [Hs]; · iexists _; iexact Hs
    iexact Hsv
  isplitl [Hr]; · iexact Hr
  iexact Hrv

/-- A trip takes the state at its head to the state at the next one's. -/
theorem trip_run (hidx : ∀ j, (idx j).toNat < 500000) (O : CellTallies nD τ sig (HIx 1)) (W : Waits sig (HIx 1))
    (n : Fin k0_t1_loop.trips) (acc : BitVec 32 × BitVec 32 × BitVec 32 × BitVec 32 × BitVec 32) :
    Inv d L idx tb o₀ q O W n.val acc ⊢ wp frame (wpE (defs₀ (F := F)) 𝒱₀ (thr d L) none) Set.univ
      (k0_t1_body L tV (Memref.isWhole_whole _) iV (Memref.isWhole_whole _) oV (Memref.isWhole_whole _) sV (Memref.isWhole_whole _)
        cc0_scoped1 rV (Memref.isWhole_whole _) cc0_scoped3 cc0_scoped4 (baseW L) n acc)
      (Inv d L idx tb o₀ q O W (n.val + 1)) := by
  have hn := trips_lt n
  unfold Inv
  rw [pts_oRng (a := base L + n.val) (b := base L + (n.val + 1)) (by omega) (by omega),
    show oRng (base L + n.val) (base L + (n.val + 1)) = oBlk (base L + n.val) from oRng_one _,
    pts_iRng (a := base L) (b := base L + n.val) (c := base L + (n.val + 1)) (by omega) (by omega),
    show iRng (base L + n.val) (base L + (n.val + 1)) = iBlk (base L + n.val) from iRng_one _]
  iintro ⟨%hacc, #Hmw, HO, Ht, Hg, Hid, Hir, HF, HS, HR, HT, Hod, Hob, Hor⟩
  subst hacc
  unfold args k0_t1_body
  iapply (part1_run (F := F) d L idx n) $$ [Hir HS]
  · isplitl [Hir]; · iexact Hir
    iexact HS
  iintro ⟨Hir, HF'⟩
  iapply (part2_run (F := F) d L idx tb q hidx (O := O) (W := W) n) $$ [HO Ht Hg HF HR]
  · isplitr; · iexact Hmw
    isplitl [HO]; · iexact HO
    isplitl [Ht]; · iexact Ht
    isplitl [Hg]; · iexact Hg
    isplitl [HF]; · iexact HF
    iexact HR
  iintro ⟨HO, Ht, Hg, Hib, HS, Hr, Hrv⟩
  simp only [Prog.lift, Prog.bind_op, Prog.bind_ret]
  rw [dif_pos (cond5_ok L n)]
  iapply (store_step (F := F) d L idx tb (p := n.val) (blk_lt L hn) (off12_eq n) (off13_eq L n) (off14_eq n) o₀) $$ [Hr Hob Hrv]
  · isplitl [Hr]; · iexact Hr
    isplitl [Hob]; · iexact Hob
    iexact Hrv
  iintro HFs
  simp only [Prog.pure_eq_ret, Prog.bind_ret, ite_self]
  by_cases h : 0 < n.val
  · rw [dif_pos ((cond7_iff L n).mpr h)]
    ihave HT := (Entails.of_eq (Storing_pos (F := F) d L idx tb ⟨h, hn.le⟩)) $$ HT
    iapply (wait_step (F := F) d L (O := O) (W := W) (dR_eq (off17_eq n)) (dstw := oB (k0_off16 L (arg10 n))
      (k0_off16_inb L n (arg6 n) (arg7 n) (arg7 n) (arg9 n) (arg10 n) (chk1_ok L n) ((cond7_iff L n).mpr h))) (N := NO) credit_oB) $$ [HT HO]
    · isplitl [HT]; · iexact HT
      isplitl [HO]; · iexact HO
      iexact Hmw
    iintro ⟨⟨Hoo, Hr⟩, Hrv, HO⟩
    simp only [Prog.pure_eq_ret, wp_ret]
    imodintro
    isplitr; · ipureintro; exact next_args L n
    isplitr; · iexact Hmw
    isplitl [HO]; · iexact HO
    isplitl [Ht]; · iexact Ht
    isplitl [Hg]; · iexact Hg
    isplitl [Hid Hib]
    · isplitl [Hid]; · iexact Hid
      iexact Hib
    isplitl [Hir]; · iexact Hir
    isplitl [HF']; · iexact HF'
    isplitl [HS]; · iapply (Entails.of_eq (FreeS_congr (F := F) d L (show n.val % 2 = (n.val + 1 + 1) % 2 by omega))); iexact HS
    isplitl [Hr Hrv]
    · iapply (Entails.of_eq (FreeR_congr (F := F) d L (show (n.val - 1) % 2 = (n.val + 1) % 2 by omega)))
      unfold FreeR
      isplitl [Hr]; · iexists _; iexact Hr
      iexact Hrv
    isplitl [HFs]; · iapply (Entails.of_eq (Storing_pos (F := F) d L idx tb ⟨Nat.succ_pos _, hn⟩).symm); iexact HFs
    isplitl [Hod Hoo]
    · iapply (Entails.of_eq (show (iprop((oLoc d ↦[oRng (base L) (base L + (n.val - 1))]{fullShare} gO (F := F) idx tb)
          ∗ oLoc d ↦[oBlk (base L + (n.val - 1))]{fullShare} gO (F := F) idx tb) : sProp 𝕄)
          = oLoc d ↦[oRng (base L) (base L + (n.val + 1 - 1))]{fullShare} gO (F := F) idx tb by
        rw [pts_oRng (a := base L) (b := base L + (n.val - 1)) (c := base L + (n.val + 1 - 1)) (by omega) (by omega),
          show oRng (base L + (n.val - 1)) (base L + (n.val + 1 - 1)) = oBlk (base L + (n.val - 1)) by
            rw [show base L + (n.val + 1 - 1) = base L + (n.val - 1) + 1 by omega]; exact oRng_one _]))
      isplitl [Hod]; · iexact Hod
      iexact Hoo
    iexact Hor
  · have e : n.val = 0 := by omega
    rw [dif_neg (fun h' => h ((cond7_iff L n).mp h'))]
    ihave HT := (Entails.of_eq (Storing_neg (F := F) d L idx tb (fun h' => h h'.1))) $$ HT
    simp only [Prog.pure_eq_ret, wp_ret]
    imodintro
    isplitr; · ipureintro; exact next_args L n
    isplitr; · iexact Hmw
    isplitl [HO]; · iexact HO
    isplitl [Ht]; · iexact Ht
    isplitl [Hg]; · iexact Hg
    isplitl [Hid Hib]
    · isplitl [Hid]; · iexact Hid
      iexact Hib
    isplitl [Hir]; · iexact Hir
    isplitl [HF']; · iexact HF'
    isplitl [HS]; · iapply (Entails.of_eq (FreeS_congr (F := F) d L (show n.val % 2 = (n.val + 1 + 1) % 2 by omega))); iexact HS
    isplitl [HT]; · iexact HT
    isplitl [HFs]; · iapply (Entails.of_eq (Storing_pos (F := F) d L idx tb ⟨Nat.succ_pos _, hn⟩).symm); iexact HFs
    isplitl [Hod]
    · iapply (Entails.of_eq (show (oLoc d ↦[oRng (base L) (base L + (n.val - 1))]{fullShare} gO (F := F) idx tb : sProp 𝕄)
          = oLoc d ↦[oRng (base L) (base L + (n.val + 1 - 1))]{fullShare} gO (F := F) idx tb by
        rw [show n.val - 1 = n.val + 1 - 1 by omega]))
      iexact Hod
    iexact Hor

end Cert.Proof.Gather

end
-- ==== Proof.Tile.lean ====
/-
  A tile's whole run: the first fetch, the pipeline's trips by their invariant, the last store's wait; and what the tile
  holds of its own, scratch and semaphores, in the form the trips use.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg
open Idealize.ShloMosaic.Tactic

variable {F : FTy → Type} [FloatOps F]

local notation "𝕄" => MT nD τ sig (HIx 1) (Elt F) ℕ UU ℕ

variable (d : Dev nD) (L : grid0.Coords)
variable (idx : Buf (Elt F) (iLoc d)) (tb : Buf (Elt F) (tLoc d)) (o₀ : Buf (Elt F) (oLoc d)) (q : PosShare TreeShare)
variable {α : Type}

/-! ## The two ends of the body -/

/-- The first fetch starts. -/
theorem part3_run {Q : α → sProp 𝕄} {k : BitVec 32 → Prog (TpuEff nD τ sig (Elt F) Λ₀ (thr d L).2) α} :
    iprop((iLoc d ↦[iRng (base L) (base L + 50)]{fullShare} idx) ∗ FreeS d L 0)
      ⊢ iprop((iprop((iLoc d ↦[iRng (base L + 1) (base L + 50)]{fullShare} idx) ∗ Fetching d L idx 0)
            -∗ wp frame (wpE (defs₀ (F := F)) 𝒱₀ (thr d L) none) Set.univ (k (baseW L)) Q)
          -∗ wp frame (wpE (defs₀ (F := F)) 𝒱₀ (thr d L) none) Set.univ
      (k0_part3 L tV (Memref.isWhole_whole _) iV (Memref.isWhole_whole _) oV (Memref.isWhole_whole _) sV (Memref.isWhole_whole _)
        cc0_scoped1 rV (Memref.isWhole_whole _) cc0_scoped3 cc0_scoped4 >>= k) Q) := by
  rw [k0_part3_eq_skeleton]; unfold k0_part3_skel
  simp only [Prog.lift, Prog.bind_op, Prog.bind_ret, Prog.pure_eq_ret]
  unfold Fetching
  rw [dif_pos (show 0 < 50 by omega), pts_iRng (a := base L) (b := base L + 1) (by omega) (by omega), iRng_one]
  unfold FreeS
  iintro ⟨⟨Hi, Hir⟩, ⟨%f, Hs⟩, Hv⟩ Hk
  iapply (fetch_step (F := F) d L idx (p := 0) (n := base L) (blk_lt L (k := 0) (by omega)) (off1_eq) (off2_eq L) (off3_eq) f) $$ [Hi Hs Hv]
  · isplitl [Hi]; · iexact Hi
    isplitl [Hs]; · iexact Hs
    iexact Hv
  iintro HF
  iapply Hk
  isplitl [Hir]; · iexact Hir
  iexact HF

/-- The trips, and the two assumed bounds after them. -/
theorem part4_run {Q : α → sProp 𝕄} (hidx : ∀ j, (idx j).toNat < 500000) (O : CellTallies nD τ sig (HIx 1)) (W : Waits sig (HIx 1))
    {k : _ → Prog (TpuEff nD τ sig (Elt F) Λ₀ (thr d L).2) α} :
    Inv d L idx tb o₀ q O W 0 (args 0)
      ⊢ iprop((Inv d L idx tb o₀ q O W 50 (args 50)
            -∗ wp frame (wpE (defs₀ (F := F)) 𝒱₀ (thr d L) none) Set.univ (k ⟨arg9 50, arg10 50, chk5_ok L, chk4_ok⟩) Q)
          -∗ wp frame (wpE (defs₀ (F := F)) 𝒱₀ (thr d L) none) Set.univ
      (k0_part4 L tV (Memref.isWhole_whole _) iV (Memref.isWhole_whole _) oV (Memref.isWhole_whole _) sV (Memref.isWhole_whole _)
        cc0_scoped1 rV (Memref.isWhole_whole _) cc0_scoped3 cc0_scoped4 (baseW L) >>= k) Q) := by
  rw [k0_part4_eq_skeleton]; unfold k0_part4_skel
  simp only [Prog.lift, Prog.bind_assoc]
  iintro HI Hk
  iapply (Scf.wp_for_bind _ _ _ k0_t1_loop.lb k0_t1_loop.ub k0_t1_loop.st k0_t1_ok _ _ (Inv d L idx tb o₀ q O W)
    (fun n acc => trip_run (F := F) d L idx tb o₀ q hidx O W n acc)) $$ [HI]
  · iapply (Entails.of_eq (show (Inv d L idx tb o₀ q O W 0 (args 0) : sProp 𝕄) = Inv d L idx tb o₀ q O W 0 (Scalar.addi 0#32 1#32, 0#32, 0#32, 0#32, 0#32) from
      congrArg (Inv d L idx tb o₀ q O W 0) (by decide)))
    iexact HI
  iintro %acc HI
  ihave HI := (Entails.of_eq (congrArg (fun n => Inv (F := F) d L idx tb o₀ q O W n acc) trips_eq)) $$ HI
  ihave HI := (show (Inv d L idx tb o₀ q O W 50 acc : sProp 𝕄) ⊢ iprop(⌜acc = args 50⌝ ∗ Inv d L idx tb o₀ q O W 50 acc) by
    unfold Inv
    iintro ⟨%h, H⟩
    isplitr; · ipureintro; exact h
    isplitr; · ipureintro; exact h
    iexact H) $$ HI
  icases HI with ⟨%hacc, HI⟩
  subst hacc
  unfold args
  simp only [Prog.bind_op, Prog.bind_ret, Prog.pure_eq_ret]
  rw [wp_assume_of 𝒱₀ _ _ _ (chk5_ok L), wp_assume_of 𝒱₀ _ _ _ chk4_ok]
  iapply Hk; iexact HI

/-- The tile's run over what the trips use. -/
theorem body_run (hidx : ∀ j, (idx j).toNat < 500000) (O : CellTallies nD τ sig (HIx 1)) (W : Waits sig (HIx 1)) :
    iprop(Transfers.MayWaits (thr d L) (default : HIx 1) O ∗ Owed (F := F) d L O W
        ∗ (iLoc d ↦[iRng (base L) (base L + 50)]{fullShare} idx) ∗ (tLoc d ↦{q} tb) ∗ (oLoc d ↦[oRng (base L) (base L + 50)]{fullShare} o₀)
        ∗ FreeS d L 0 ∗ FreeS d L 1 ∗ FreeR d L 0 ∗ FreeR d L 1 ∗ semVal (thr d L, SemLoc.dma semG) 0)
      ⊢ wp frame (wpE (defs₀ (F := F)) 𝒱₀ (thr d L) none) Set.univ
      (cc0_gather_kernel L tV (Memref.isWhole_whole _) iV (Memref.isWhole_whole _) oV (Memref.isWhole_whole _) sV (Memref.isWhole_whole _)
        cc0_scoped1 rV (Memref.isWhole_whole _) cc0_scoped3 cc0_scoped4)
      fun _ => iprop(Owed (F := F) d L O W
        ∗ (iLoc d ↦[iRng (base L) (base L + 50)]{fullShare} idx) ∗ (tLoc d ↦{q} tb)
        ∗ (oLoc d ↦[oRng (base L) (base L + 50)]{fullShare} gO (F := F) idx tb)
        ∗ FreeS d L 0 ∗ FreeS d L 1 ∗ FreeR d L 0 ∗ FreeR d L 1 ∗ semVal (thr d L, SemLoc.dma semG) 0) := by
  rw [cc0_gather_kernel_eq_skeleton]; unfold cc0_gather_kernel_skel
  iintro ⟨#Hmw, HO, Hi, Ht, Ho, HS0, HS1, HR0, HR1, Hg⟩
  iapply (part3_run (F := F) d L idx) $$ [Hi HS0]
  · isplitl [Hi]; · iexact Hi
    iexact HS0
  iintro ⟨Hir, HF⟩
  iapply (part4_run (F := F) d L idx tb o₀ q hidx O W) $$ [HO Hir Ht Ho HF HS1 HR0 HR1 Hg]
  · unfold Inv
    isplitr; · ipureintro; rfl
    isplitr; · iexact Hmw
    isplitl [HO]; · iexact HO
    isplitl [Ht]; · iexact Ht
    isplitl [Hg]; · iexact Hg
    isplitr
    · iapply (Entails.of_eq (show (iprop(emp) : sProp 𝕄) = (iLoc d ↦[iRng (base L) (base L + 0)]{fullShare} idx) by
        rw [Nat.add_zero, iRng_nil]; exact pointsTo_empty.symm))
      iempintro
    isplitl [Hir]; · iexact Hir
    isplitl [HF]; · iexact HF
    isplitl [HS1]; · iexact HS1
    isplitl [HR0]; · iexact HR0
    isplitl [HR1]; · iapply (Entails.of_eq (Storing_neg (F := F) d L idx tb (k := 0) (fun h' => absurd h'.1 (by decide))).symm); iexact HR1
    isplitr
    · iapply (Entails.of_eq (show (iprop(emp) : sProp 𝕄) = (oLoc d ↦[oRng (base L) (base L + (0 - 1))]{fullShare} gO (F := F) idx tb) by
        rw [show base L + (0 - 1) = base L from rfl, oRng_nil]; exact pointsTo_empty.symm))
      iempintro
    iexact Ho
  unfold Inv
  iintro ⟨-, -, HO, Ht, Hg, Hi, -, HF, HS1, HR0, HT, Ho, -⟩
  ihave HT := (Entails.of_eq (Storing_pos (F := F) d L idx tb (k := 50) ⟨by decide, le_refl _⟩)) $$ HT
  ihave HS0 := (Entails.of_eq (show (Fetching d L idx 50 : sProp 𝕄) = FreeS d L 50 from dif_neg (lt_irrefl _))) $$ HF
  simp only [Prog.lift, Prog.bind_op, Prog.bind_ret]
  iapply (wait_step (F := F) d L (O := O) (W := W) (dR_eq (p := 50 - 1) off20_eq) (dstw := oB (k0_off19 L (arg10 50)) (k0_off19_inb L (arg10 50) (chk5_ok L))) (N := NO) credit_oB) $$ [HT HO]
  · isplitl [HT]; · iexact HT
    isplitl [HO]; · iexact HO
    iexact Hmw
  iintro ⟨⟨Hoo, Hr⟩, Hrv, HO⟩
  simp only [Prog.pure_eq_ret, wp_ret]
  imodintro
  isplitl [HO]; · iexact HO
  isplitl [Hi]; · iexact Hi
  isplitl [Ht]; · iexact Ht
  isplitl [Ho Hoo]
  · iapply (Entails.of_eq (show (iprop((oLoc d ↦[oRng (base L) (base L + (50 - 1))]{fullShare} gO (F := F) idx tb)
          ∗ oLoc d ↦[oBlk (base L + (50 - 1))]{fullShare} gO (F := F) idx tb) : sProp 𝕄)
          = oLoc d ↦[oRng (base L) (base L + 50)]{fullShare} gO (F := F) idx tb by
        rw [pts_oRng (a := base L) (b := base L + (50 - 1)) (c := base L + 50) (by omega) (by omega),
          show oRng (base L + (50 - 1)) (base L + 50) = oBlk (base L + (50 - 1)) from oRng_one _]))
    isplitl [Ho]; · iexact Ho
    iexact Hoo
  isplitl [HS0]; · iapply (Entails.of_eq (FreeS_congr (F := F) d L (show 50 % 2 = 0 % 2 by omega))); iexact HS0
  isplitl [HS1]; · iapply (Entails.of_eq (FreeS_congr (F := F) d L (show (50 + 1) % 2 = 1 % 2 by omega))); iexact HS1
  isplitl [HR0]; · iapply (Entails.of_eq (FreeR_congr (F := F) d L (show 50 % 2 = 0 % 2 by omega))); iexact HR0
  isplitl [Hr Hrv]
  · iapply (Entails.of_eq (FreeR_congr (F := F) d L (show (50 - 1) % 2 = 1 % 2 by omega)))
    unfold FreeR
    isplitl [Hr]; · iexists _; iexact Hr
    iexact Hrv
  iexact Hg

/-! ## The tile's own scratch and semaphores -/

/-- Memory held at some contents is its two halves, each at some contents. -/
theorem halves {ℓ : Loc nD τ sig} {A B : Finset (Idx ℓ)} (h : Disjoint A B) (hu : A ∪ B = Finset.univ) :
    (iprop(∃ f, ℓ ↦{fullShare} f) : sProp 𝕄) = iprop((∃ f, ℓ ↦[A]{fullShare} f) ∗ (∃ f, ℓ ↦[B]{fullShare} f)) := by
  classical
  have h₁ : (iprop(∃ f, ℓ ↦{fullShare} f) : sProp 𝕄) ⊢ iprop((∃ f, ℓ ↦[A]{fullShare} f) ∗ (∃ f, ℓ ↦[B]{fullShare} f)) := by
    iintro ⟨%f, H⟩
    ihave H := (Entails.of_eq (show (ℓ ↦{fullShare} f : sProp 𝕄) = ℓ ↦[A ∪ B]{fullShare} f by rw [hu])) $$ H
    ihave H := (pointsTo_union h).1 $$ H
    icases H with ⟨HA, HB⟩
    isplitl [HA]
    · iexists f; iexact HA
    · iexists f; iexact HB
  have h₂ : (iprop((∃ f, ℓ ↦[A]{fullShare} f) ∗ (∃ f, ℓ ↦[B]{fullShare} f)) : sProp 𝕄) ⊢ iprop(∃ f, ℓ ↦{fullShare} f) := by
    iintro ⟨⟨%f, HA⟩, %g, HB⟩
    iexists (fun y => if y ∈ A then f y else g y)
    ihave HA := (Entails.of_eq (pointsTo_congr (g := fun y => if y ∈ A then f y else g y) (fun y hy => (if_pos hy).symm))) $$ HA
    ihave HB := (Entails.of_eq (pointsTo_congr (g := fun y => if y ∈ A then f y else g y)
      (fun y hy => (if_neg (Finset.disjoint_right.mp h hy)).symm))) $$ HB
    iapply (Entails.of_eq (show (ℓ ↦[A ∪ B]{fullShare} (fun y => if y ∈ A then f y else g y) : sProp 𝕄) = ℓ ↦{fullShare} _ by rw [hu]))
    iapply (pointsTo_union h).2
    isplitl [HA]; · iexact HA
    iexact HB
  exact BI.Entails.antisymm h₁ h₂

abbrev cellS (p : ℕ) : GSem nD τ sig := (thr d L, SemLoc.dma (semS p))
abbrev cellR (p : ℕ) : GSem nD τ sig := (thr d L, SemLoc.dma (semR p))
abbrev cellG : GSem nD τ sig := (thr d L, SemLoc.dma semG)

omit [FloatOps F] in
theorem own_sems :
    (ownSems0 (thr d L) : sProp 𝕄)
      = iprop(semVal (cellS d L 0) 0 ∗ semVal (cellS d L 1) 0 ∗ semVal (cellR d L 0) 0 ∗ semVal (cellR d L 1) 0 ∗ semVal (cellG d L) 0
          ∗ bigSep ((((((ownCells (thr d L)).erase (cellS d L 0)).erase (cellS d L 1)).erase (cellR d L 0)).erase (cellR d L 1)).erase (cellG d L)) fun g => semVal g 0) := by
  have ne : ∀ {a b : DmaSem sig}, a ≠ b → ((thr d L, SemLoc.dma a) : GSem nD τ sig) ≠ (thr d L, SemLoc.dma b) :=
    fun h e => h (SemLoc.dma.inj (Prod.mk.inj e).2)
  have mem : ∀ {a : DmaSem sig}, (SemLoc.dma a : SemLoc sig).isScoped .scVector = true → ((thr d L, SemLoc.dma a) : GSem nD τ sig) ∈ ownCells (thr d L) :=
    fun h => mem_ownCells.mpr ⟨rfl, h⟩
  unfold SparseCore.Cfg.ownSems0
  rw [SparseCore.bigSep_erase' (i := cellS d L 0) (mem (by decide +kernel)),
    SparseCore.bigSep_erase' (i := cellS d L 1) (Finset.mem_erase.mpr ⟨ne (by decide +kernel), mem (by decide +kernel)⟩),
    SparseCore.bigSep_erase' (i := cellR d L 0) (Finset.mem_erase.mpr ⟨ne (by decide +kernel), Finset.mem_erase.mpr ⟨ne (by decide +kernel), mem (by decide +kernel)⟩⟩),
    SparseCore.bigSep_erase' (i := cellR d L 1) (Finset.mem_erase.mpr ⟨ne (by decide +kernel), Finset.mem_erase.mpr ⟨ne (by decide +kernel),
      Finset.mem_erase.mpr ⟨ne (by decide +kernel), mem (by decide +kernel)⟩⟩⟩),
    SparseCore.bigSep_erase' (i := cellG d L) (Finset.mem_erase.mpr ⟨ne (by decide +kernel), Finset.mem_erase.mpr ⟨ne (by decide +kernel),
      Finset.mem_erase.mpr ⟨ne (by decide +kernel), Finset.mem_erase.mpr ⟨ne (by decide +kernel), mem (by decide +kernel)⟩⟩⟩⟩)]

omit [FloatOps F] in
theorem own_bufs :
    (ownBufs (thr d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem sSlot_disj : Disjoint (sSlot 0) (sSlot 1) := by
  rw [Finset.disjoint_left]; intro y; simp only [sSlot, Finset.mem_filter, Finset.mem_univ, true_and]; omega
theorem sSlot_cover : sSlot 0 ∪ sSlot 1 = Finset.univ := by
  ext y; have : (y 0).val < 2 := (y 0).isLt
  simp only [sSlot, Finset.mem_union, Finset.mem_filter, Finset.mem_univ, true_and, iff_true]; omega
theorem rSlot_disj : Disjoint (rSlot 0) (rSlot 1) := by
  rw [Finset.disjoint_left]; intro y; simp only [rSlot, Finset.mem_filter, Finset.mem_univ, true_and]; omega
theorem rSlot_cover : rSlot 0 ∪ rSlot 1 = Finset.univ := by
  ext y; have : (y 0).val < 2 := (y 0).isLt
  simp only [rSlot, Finset.mem_union, Finset.mem_filter, Finset.mem_univ, true_and, iff_true]; omega

theorem sHalves : (iprop(∃ f, sLoc d L ↦{fullShare} f) : sProp 𝕄) = iprop((∃ f, sLoc d L ↦[sSlot 0]{fullShare} f) ∗ (∃ f, sLoc d L ↦[sSlot 1]{fullShare} f)) :=
  halves (F := F) (ℓ := sLoc d L) (A := sSlot 0) (B := sSlot 1) sSlot_disj sSlot_cover
theorem rHalves : (iprop(∃ f, rLoc d L ↦{fullShare} f) : sProp 𝕄) = iprop((∃ f, rLoc d L ↦[rSlot 0]{fullShare} f) ∗ (∃ f, rLoc d L ↦[rSlot 1]{fullShare} f)) :=
  halves (F := F) (ℓ := rLoc d L) (A := rSlot 0) (B := rSlot 1) rSlot_disj rSlot_cover

/-- The tile's task, from what the launch hands it to what it hands back. -/
theorem tile_body (hF : (K (F := F)).Facts) (hidx : ∀ j, (idx j).toNat < 500000) (O : CellTallies nD τ sig (HIx 1)) (W : Waits sig (HIx 1))
    (hO : ∀ g, O g none = 0) :
    iprop(levAts (K (F := F)).L (K (F := F)).lev ∗ emp
        ∗ ((iLoc d ↦[iRng (base L) (base L + 50)]{fullShare} idx) ∗ (tLoc d ↦{q} tb) ∗ (oLoc d ↦[oRng (base L) (base L + 50)]{fullShare} o₀))
        ∗ scopedBufs (thr d L) ∗ scopedSems0 (thr d L) ∗ owes (thr d L) O W : sProp 𝕄)
      ⊢ wp frame (wpE (defs₀ (F := F)) 𝒱₀ (thr d L) none) Set.univ
          (cc0_gather_kernel L tV (Memref.isWhole_whole _) iV (Memref.isWhole_whole _) oV (Memref.isWhole_whole _) sV (Memref.isWhole_whole _)
            cc0_scoped1 rV (Memref.isWhole_whole _) cc0_scoped3 cc0_scoped4)
          fun _ => iprop(((iLoc d ↦[iRng (base L) (base L + 50)]{fullShare} idx) ∗ (tLoc d ↦{q} tb)
              ∗ (oLoc d ↦[oRng (base L) (base L + 50)]{fullShare} gO (F := F) idx tb))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), own_sems, own_bufs, sHalves, rHalves]
  iintro ⟨#Hlv, -, ⟨Hi, Ht, Ho⟩, ⟨⟨Hs0, Hs1⟩, ⟨Hr0, Hr1⟩, Hbufs⟩, ⟨HS0, HS1, HR0, HR1, HG, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame (wpE (defs₀ (F := F)) 𝒱₀ (thr d L) none) Set.univ)
  isplitl [Hmw HO Hi Ht Ho Hs0 Hs1 Hr0 Hr1 HS0 HS1 HR0 HR1 HG]
  · iapply (body_run (F := F) d L idx tb o₀ q hidx O W)
    isplitl [Hmw]; · iexact Hmw
    isplitl [HO]
    · unfold Owed; iexists W; isplitr
      · ipureintro; exact fun p hp => .inl hp
      iexact HO
    isplitl [Hi]; · iexact Hi
    isplitl [Ht]; · iexact Ht
    isplitl [Ho]; · iexact Ho
    unfold FreeS FreeR
    isplitl [Hs0 HS0]; · isplitl [Hs0] <;> iassumption
    isplitl [Hs1 HS1]; · isplitl [Hs1] <;> iassumption
    isplitl [Hr0 HR0]; · isplitl [Hr0] <;> iassumption
    isplitl [Hr1 HR1]; · isplitl [Hr1] <;> iassumption
    iexact HG
  iintro %_ ⟨HO, Hi, Ht, Ho, HS0, HS1, HR0, HR1, HG⟩
  unfold FreeS FreeR
  icases HS0 with ⟨Hs0, HS0⟩
  icases HS1 with ⟨Hs1, HS1⟩
  icases HR0 with ⟨Hr0, HR0⟩
  icases HR1 with ⟨Hr1, HR1⟩
  isplitl [Hi Ht Ho]
  · isplitl [Hi]; · iexact Hi
    isplitl [Ht]; · iexact Ht
    iexact Ho
  isplitl [Hs0 Hs1 Hr0 Hr1 Hbufs]
  · isplitl [Hs0 Hs1]; · isplitl [Hs0] <;> iassumption
    isplitl [Hr0 Hr1]; · isplitl [Hr0] <;> iassumption
    iexact Hbufs
  isplitl [HS0 HS1 HR0 HR1 HG Hsems]
  · isplitl [HS0]; · iexact HS0
    isplitl [HS1]; · iexact HS1
    isplitl [HR0]; · iexact HR0
    isplitl [HR1]; · iexact HR1
    isplitl [HG]; · iexact HG
    iexact Hsems
  unfold Owed
  iexact HO

end Cert.Proof.Gather

end
-- ==== Proof.Deal.lean ====
/-
  What the launch deals out: each SparseCore its half of the list and of the result and a share of the table, each tile
  its fifty blocks of both and a share of its SparseCore's share.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares -/

/-- Part `i` of the `2 ^ n` parts of a share, numbered left to right. -/
def part : ℕ → PosShare TreeShare → ℕ → PosShare TreeShare
  | 0, q, _ => q
  | n + 1, q, i => if i < 2 ^ n then part n q.left i else part n q.right (i - 2 ^ n)

/-- Memory held at a share is held at all its parts. -/
theorem pts_parts {ℓ : Loc nD τ sig} (I : Finset (Idx ℓ)) (f : Buf (Elt F) ℓ) (n : ℕ) :
    ∀ (q : PosShare TreeShare) (N : ℕ) (_ : N = 2 ^ n),
      (ℓ ↦[I]{q} f : sProp 𝕄) = bigSep Finset.univ fun i : Fin N => ℓ ↦[I]{part n q i.val} f := by
  induction n with
  | zero =>
    intro q N hN
    subst hN
    exact (bigSep_univ_of_subsingleton (0 : Fin 1) (Φ := fun i : Fin (2 ^ 0) => (ℓ ↦[I]{part 0 q i.val} f : sProp 𝕄))).symm
  | succ n ih =>
    intro q N hN
    have hN' : N = 2 ^ n + 2 ^ n := by rw [hN, pow_succ]; omega
    subst hN'
    rw [BI.Entails.antisymm (pointsTo_share (PosShare.mem_left_op_right q)).1 (pointsTo_share (PosShare.mem_left_op_right q)).2, ih q.left _ rfl, ih q.right _ rfl,
      bigSep_univ_equiv finSumFinEquiv (fun i : Fin (2 ^ n + 2 ^ n) => (ℓ ↦[I]{part (n + 1) q i.val} f : sProp 𝕄)), bigSep_univ_sum]
    congr 1 <;> refine bigSep_congr fun i _ => ?_
    · simp [part]
    · simp [part]

/-! ## Chunks of the blocks -/

theorem chunk_of {a n w v : ℕ} (hw : 0 < w) (h₁ : a ≤ v) (h₂ : v < a + n * w) :
    ∃ i : Fin n, a + i.val * w ≤ v ∧ v < a + i.val * w + w := by
  have h := Nat.div_add_mod (v - a) w
  have hm := Nat.mod_lt (v - a) hw
  have hlt : (v - a) / w < n := Nat.div_lt_of_lt_mul (by rw [Nat.mul_comm]; omega)
  refine ⟨⟨(v - a) / w, hlt⟩, ?_⟩
  show a + (v - a) / w * w ≤ v ∧ v < a + (v - a) / w * w + w
  rw [Nat.mul_comm]; omega

theorem chunk_le {a n w : ℕ} (i : Fin n) : a + i.val * w + w ≤ a + n * w := by
  have := Nat.mul_le_mul_right w i.isLt
  rw [Nat.succ_mul] at this; omega

theorem chunk_ne {a n w v : ℕ} {i j : Fin n} (h : i ≠ j) (hi : a + i.val * w ≤ v ∧ v < a + i.val * w + w)
    (hj : a + j.val * w ≤ v ∧ v < a + j.val * w + w) : False := by
  rcases Nat.lt_or_gt_of_ne (fun e => h (Fin.ext e)) with h' | h'
  · have := Nat.mul_le_mul_right w h'; rw [Nat.succ_mul] at this; omega
  · have := Nat.mul_le_mul_right w h'; rw [Nat.succ_mul] at this; omega

theorem iRng_chunks {a n w : ℕ} (hw : 0 < w) :
    (Finset.univ : Finset (Fin n)).biUnion (fun i => iRng (a + i.val * w) (a + i.val * w + w)) = iRng a (a + n * w) := by
  ext y
  simp only [Finset.mem_biUnion, Finset.mem_univ, true_and, iRng, Finset.mem_filter]
  constructor
  · rintro ⟨i, h₁, h₂⟩; have := chunk_le (a := a) (w := w) i; omega
  · rintro ⟨h₁, h₂⟩; exact chunk_of hw h₁ h₂

theorem oRng_chunks {a n w : ℕ} (hw : 0 < w) :
    (Finset.univ : Finset (Fin n)).biUnion (fun i => oRng (a + i.val * w) (a + i.val * w + w)) = oRng a (a + n * w) := by
  ext y
  simp only [Finset.mem_biUnion, Finset.mem_univ, true_and, oRng, Finset.mem_filter]
  constructor
  · rintro ⟨i, h₁, h₂⟩; have := chunk_le (a := a) (w := w) i; omega
  · rintro ⟨h₁, h₂⟩; exact chunk_of hw h₁ h₂

theorem iRng_chunks_disj {a n w : ℕ} : ∀ i ∈ (Finset.univ : Finset (Fin n)), ∀ j ∈ (Finset.univ : Finset (Fin n)), i ≠ j →
    Disjoint (iRng (a + i.val * w) (a + i.val * w + w)) (iRng (a + j.val * w) (a + j.val * w + w)) := by
  intro i _ j _ h
  rw [Finset.disjoint_left]; intro y hi hj
  simp only [iRng, Finset.mem_filter, Finset.mem_univ, true_and] at hi hj
  exact chunk_ne h hi hj

theorem oRng_chunks_disj {a n w : ℕ} : ∀ i ∈ (Finset.univ : Finset (Fin n)), ∀ j ∈ (Finset.univ : Finset (Fin n)), i ≠ j →
    Disjoint (oRng (a + i.val * w) (a + i.val * w + w)) (oRng (a + j.val * w) (a + j.val * w + w)) := by
  intro i _ j _ h
  rw [Finset.disjoint_left]; intro y hi hj
  simp only [oRng, Finset.mem_filter, Finset.mem_univ, true_and] at hi hj
  exact chunk_ne h hi hj

theorem pts_iChunks (d : Dev nD) (q : PosShare TreeShare) (f : Buf (Elt F) (iLoc d)) (a n w : ℕ) (hw : 0 < w) :
    (iLoc d ↦[iRng a (a + n * w)]{q} f : sProp 𝕄)
      = bigSep Finset.univ fun i : Fin n => iLoc d ↦[iRng (a + i.val * w) (a + i.val * w + w)]{q} f := by
  rw [← iRng_chunks hw, pointsTo_biUnion Finset.univ (ℓ := iLoc d) _ iRng_chunks_disj]

theorem pts_oChunks (d : Dev nD) (q : PosShare TreeShare) (f : Buf (Elt F) (oLoc d)) (a n w : ℕ) (hw : 0 < w) :
    (oLoc d ↦[oRng a (a + n * w)]{q} f : sProp 𝕄)
      = bigSep Finset.univ fun i : Fin n => oLoc d ↦[oRng (a + i.val * w) (a + i.val * w + w)]{q} f := by
  rw [← oRng_chunks hw, pointsTo_biUnion Finset.univ (ℓ := oLoc d) _ oRng_chunks_disj]

theorem iRng_all : iRng 0 (0 + 2 * 800) = Finset.univ := by
  ext y; simp only [iRng, Finset.mem_filter, Finset.mem_univ, true_and, iff_true]
  have h : (y 0).val < 1600 := (y 0).isLt
  omega
theorem oRng_all : oRng 0 (0 + 2 * 800) = Finset.univ := by
  ext y; simp only [oRng, Finset.mem_filter, Finset.mem_univ, true_and, iff_true]
  have h : (y 0).val < 204800 := (y 0).isLt
  omega

/-! ## What the handshakes carry -/

variable [FloatOps F]
variable (idx : (d : Dev nD) → Buf (Elt F) (iLoc d)) (tb : (d : Dev nD) → Buf (Elt F) (tLoc d)) (o₀ : (d : Dev nD) → Buf (Elt F) (oLoc d))

/-- `w` blocks from `b` on, of the list and of the result, and a share of the table. -/
abbrev Hand (d : Dev nD) (b w : ℕ) (q : PosShare TreeShare) (f : Buf (Elt F) (oLoc d)) : sProp 𝕄 :=
  iprop((iLoc d ↦[iRng b (b + w)]{fullShare} idx d) ∗ (tLoc d ↦{q} tb d) ∗ (oLoc d ↦[oRng b (b + w)]{fullShare} f))

/-- What SparseCore `c` takes: its 800 blocks; and tile `i` of it: its 50. -/
abbrev CoreHand (d : Dev nD) (c : ℕ) (f : Buf (Elt F) (oLoc d)) : sProp 𝕄 := Hand idx tb d (0 + c * 800) 800 (part 1 fullShare c) f
abbrev TileHand (d : Dev nD) (c i : ℕ) (f : Buf (Elt F) (oLoc d)) : sProp 𝕄 :=
  Hand idx tb d ((i + 16 * c) * 50) 50 (part 4 (part 1 fullShare c) i) f

/-- The one call's payloads: the blocks go out with the result as it was and come back gathered. -/
def P : (K (F := F)).Pay (nD := nD) (Val := Elt F) (Name := ℕ) (U := UU) where
  st := fun q d c => match q with | 0 => CoreHand idx tb d c.val (o₀ d)
  dn := fun q d c => match q with | 0 => CoreHand idx tb d c.val (gO (F := F) (idx d) (tb d))
  go := fun q d c i => match q with | 0 => TileHand idx tb d c.val i.val (o₀ d)
  td := fun q d c i => match q with | 0 => TileHand idx tb d c.val i.val (gO (F := F) (idx d) (tb d))
  x := fun _ _ => iprop(emp)

instance P_storable : (P (F := F) idx tb o₀).IsStorable where
  st q d c := match q with | 0 => (inferInstance : BI.Storable (upEmb : UEmb _ 𝕄) (CoreHand idx tb d c.val (o₀ d)))
  dn q d c := match q with | 0 => (inferInstance : BI.Storable (upEmb : UEmb _ 𝕄) (CoreHand idx tb d c.val (gO (F := F) (idx d) (tb d))))
  go q d c i := match q with | 0 => (inferInstance : BI.Storable (upEmb : UEmb _ 𝕄) (TileHand idx tb d c.val i.val (o₀ d)))
  td q d c i := match q with | 0 => (inferInstance : BI.Storable (upEmb : UEmb _ 𝕄) (TileHand idx tb d c.val i.val (gO (F := F) (idx d) (tb d))))

/-! ## Splitting and joining -/

/-- A SparseCore's part is its sixteen tiles'. -/
theorem core_tiles (d : Dev nD) (c : ℕ) (f : Buf (Elt F) (oLoc d)) :
    (CoreHand idx tb d c f : sProp 𝕄) = bigSep Finset.univ fun i : Fin 16 => TileHand idx tb d c i.val f := by
  have e : ∀ i : Fin 16, 0 + c * 800 + i.val * 50 = (i.val + 16 * c) * 50 := fun i => by omega
  have hi : (iLoc d ↦[iRng (0 + c * 800) (0 + c * 800 + 800)]{fullShare} idx d : sProp 𝕄)
      = bigSep Finset.univ fun i : Fin 16 => iLoc d ↦[iRng ((i.val + 16 * c) * 50) ((i.val + 16 * c) * 50 + 50)]{fullShare} idx d :=
    (pts_iChunks d fullShare (idx d) (0 + c * 800) 16 50 (by decide)).trans (bigSep_congr fun i _ => by rw [e i])
  have ho : (oLoc d ↦[oRng (0 + c * 800) (0 + c * 800 + 800)]{fullShare} f : sProp 𝕄)
      = bigSep Finset.univ fun i : Fin 16 => oLoc d ↦[oRng ((i.val + 16 * c) * 50) ((i.val + 16 * c) * 50 + 50)]{fullShare} f :=
    (pts_oChunks d fullShare f (0 + c * 800) 16 50 (by decide)).trans (bigSep_congr fun i _ => by rw [e i])
  have ht := pts_parts (F := F) (ℓ := tLoc d) Finset.univ (tb d) 4 (part 1 fullShare c) 16 rfl
  unfold CoreHand TileHand Hand
  rw [hi, ho, ht, bigSep_sep', bigSep_sep']

/-- The three arrays whole are the two SparseCores' parts. -/
theorem whole_cores (d : Dev nD) (f : Buf (Elt F) (oLoc d)) :
    (iprop((iLoc d ↦{fullShare} idx d) ∗ (tLoc d ↦{fullShare} tb d) ∗ (oLoc d ↦{fullShare} f)) : sProp 𝕄)
      = bigSep Finset.univ fun c : Fin 2 => CoreHand idx tb d c.val f := by
  have hi : (iLoc d ↦{fullShare} idx d : sProp 𝕄)
      = bigSep Finset.univ fun c : Fin 2 => iLoc d ↦[iRng (0 + c.val * 800) (0 + c.val * 800 + 800)]{fullShare} idx d := by
    rw [← pts_iChunks d fullShare (idx d) 0 2 800 (by decide), iRng_all]
  have ho : (oLoc d ↦{fullShare} f : sProp 𝕄)
      = bigSep Finset.univ fun c : Fin 2 => oLoc d ↦[oRng (0 + c.val * 800) (0 + c.val * 800 + 800)]{fullShare} f := by
    rw [← pts_oChunks d fullShare f 0 2 800 (by decide), oRng_all]
  have ht := pts_parts (F := F) (ℓ := tLoc d) Finset.univ (tb d) 1 fullShare 2 rfl
  unfold CoreHand Hand
  rw [hi, ho, ht, bigSep_sep', bigSep_sep']

set_option maxRecDepth 16384 in
theorem vecSplit : (K (F := F)).VecSplit' (P idx tb o₀) 0 := by
  intro d c
  show iprop(CoreHand idx tb d c.val (o₀ d)) ⊢ |={Set.univ}=> iprop(
      (bigSep Finset.univ fun i : Fin 16 => TileHand idx tb d c.val i.val (o₀ d))
      ∗ ((bigSep Finset.univ fun i : Fin 16 => TileHand idx tb d c.val i.val (gO (F := F) (idx d) (tb d)))
          -∗ CoreHand idx tb d c.val (gO (F := F) (idx d) (tb d))))
  rw [← core_tiles, ← core_tiles]
  iintro H; imodintro
  isplitl [H]; · iexact H
  iintro H; iexact H

/-! ## The tile's obligation -/

theorem defs₀_vector (c : Fin τ.nSC) (s : Fin τ.nSub) :
    defs₀ (F := F) (.scVector c s) 0 ()
      = SparseCore.onTile hcore0 hsub0 (fun c s => cc0_gather_kernel (coordsV c s) tV (Memref.isWhole_whole _) iV (Memref.isWhole_whole _)
          oV (Memref.isWhole_whole _) sV (Memref.isWhole_whole _) cc0_scoped1 rV (Memref.isWhole_whole _) cc0_scoped3 cc0_scoped4) ⟨⟩ c s := rfl

theorem tile_back {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl (hidx : ∀ d j, (idx d j).toNat < 500000) : (K (F := F)).TileObl (D (F := F)) 𝒱 (P idx tb o₀) v₀ 0 := by
  intro d c i O W hO _ _
  simp only [show (P idx tb o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) (idx d) (tb d) (o₀ d) (part 4 (part 1 fullShare c.val) i.val) facts (hidx d) O W hO).trans
    (wp_mono frame _ _ fun _ => tile_back)

end Cert.Proof.Gather

end
-- ==== Proof.Ln.lean ====
/-
  The layernorm kernel's body, run once at any grid point over any staging buffers: it leaves in the result's buffer one
  block, a function of what the seven input buffers hold.
-/
module

public import proofs.«01_k».proof.Proof.Setup
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameBody
public import Idealize.ShloMosaic.Lib.Pipeline.ValueKit

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The block the kernel stores, of the blocks it loads: packed rows, parities, segments, positions, the two segment rows,
    scale and shift. -/
def lnBlk (X0 : FVec F S64x200x128 .f32) (X1 X2 : IVec S64x200 32) (X3 : FVec F S200x64 .f32) (X4 : FVec F S2x64 .f32)
    (X5 X6 : FVec F S1x64 .f32) : FVec F S64x200x64 .f32 :=
  k1_pay1
    (k1_pay2 X0 X1 X2 (View.ld (Val := Elt F) (e' := .f32) X4 (Rect.unit ![0, 0] S1x64.size inb_S2x64_S1x64_0_0))
      (View.ld (Val := Elt F) (e' := .f32) X4 (Rect.unit ![1, 0] S1x64.size inb_S2x64_S1x64_1_0)) X3)
    (k1_pay3 X0 X1 X2 (View.ld (Val := Elt F) (e' := .f32) X4 (Rect.unit ![0, 0] S1x64.size inb_S2x64_S1x64_0_0))
      (View.ld (Val := Elt F) (e' := .f32) X4 (Rect.unit ![1, 0] S1x64.size inb_S2x64_S1x64_1_0)) X3)
    (FloatOps.ofBits .f32 0x42800000#32) X5 X6

noncomputable def lnRun (c : Dev nD) (i : grid1.Coords) (M0 : Memref sig .tc .vmem S64x200x128 .f32) (h0 : M0.IsWhole)
    (M1 : Memref sig .tc .vmem S64x200 .i32) (h1 : M1.IsWhole) (M2 : Memref sig .tc .vmem S64x200 .i32) (h2 : M2.IsWhole)
    (M3 : Memref sig .tc .vmem S200x64 .f32) (h3 : M3.IsWhole) (M4 : Memref sig .tc .vmem S2x64 .f32) (h4 : M4.IsWhole)
    (M5 : Memref sig .tc .vmem S1x64 .f32) (h5 : M5.IsWhole) (M6 : Memref sig .tc .vmem S1x64 .f32) (h6 : M6.IsWhole)
    (M7 : Memref sig .tc .vmem S64x200x64 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    { W : Bf (F := F) c M7 // ∀ (E : Set ℕ) (Q : PUnit → sProp 𝕄),
      iprop(pt c M0 f0 ∗ pt c M1 f1 ∗ pt c M2 f2 ∗ pt c M3 f3 ∗ pt c M4 f4 ∗ pt c M5 f5 ∗ pt c M6 f6 ∗ pt c M7 f7 ∗
          (iprop(pt c M0 f0 ∗ pt c M1 f1 ∗ pt c M2 f2 ∗ pt c M3 f3 ∗ pt c M4 f4 ∗ pt c M5 f5 ∗ pt c M6 f6 ∗ pt c M7 W) -∗ Q ⟨⟩))
        ⊢ wp frame (wpE (defs₀ (F := F)) Variants.none c none) E (cc1_ln_kernel i M0 h0 M1 h1 M2 h2 M3 h3 M4 h4 M5 h5 M6 h6 M7 h7) Q } := by
  refine ⟨?_, fun E Q => ?run⟩
  case run =>
    rw [cc1_ln_kernel_eq_skeleton]
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- One piece that is the whole box covers every index of it. -/
theorem cover_unit_zero {S : Shape} {e : EltTy} {off : Fin S.rank → ℕ} (h : off = fun _ => 0) (inb : ∀ a, off a + S.size a ≤ S.size a)
    (w : S.Idx → Elt F e) : ∀ y : S.Idx, ∃ p ∈ [(⟨Rect.unit off S.size inb, w⟩ : View.Piece (Elt F) S e)], y ∈ p.1.set := by
  subst h
  intro y
  refine ⟨_, List.mem_singleton_self _, ?_⟩
  show y ∈ (Rect.whole S).set
  rw [Rect.set_whole]; exact Finset.mem_univ y

theorem lnRun_val (c : Dev nD) (i : grid1.Coords) (M0 : Memref sig .tc .vmem S64x200x128 .f32) (h0 : M0.IsWhole)
    (M1 : Memref sig .tc .vmem S64x200 .i32) (h1 : M1.IsWhole) (M2 : Memref sig .tc .vmem S64x200 .i32) (h2 : M2.IsWhole)
    (M3 : Memref sig .tc .vmem S200x64 .f32) (h3 : M3.IsWhole) (M4 : Memref sig .tc .vmem S2x64 .f32) (h4 : M4.IsWhole)
    (M5 : Memref sig .tc .vmem S1x64 .f32) (h5 : M5.IsWhole) (M6 : Memref sig .tc .vmem S1x64 .f32) (h6 : M6.IsWhole)
    (M7 : Memref sig .tc .vmem S64x200x64 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    M7.view.read (Elt F) (lnRun (F := F) c i M0 h0 M1 h1 M2 h2 M3 h3 M4 h4 M5 h5 M6 h6 M7 h7 f0 f1 f2 f3 f4 f5 f6 f7).1 =
      lnBlk (M0.view.read (Elt F) f0) (M1.view.read (Elt F) f1) (M2.view.read (Elt F) f2) (M3.view.read (Elt F) f3)
        (M4.view.read (Elt F) f4) (M5.view.read (Elt F) f5) (M6.view.read (Elt F) f6) := by
  have z3 : (![0, 0, 0] : Fin 3 → ℕ) = fun _ => 0 := by funext a; fin_cases a <;> rfl
  have z2 : (![0, 0] : Fin 2 → ℕ) = fun _ => 0 := by funext a; fin_cases a <;> rfl
  unfold lnRun
  dsimp only
  sl_unfold_words
  rw [View.read_writes_eq_canon _ _ _ (cover_unit_zero z3 _ _), View.canon_unit_zero z3]
  simp only [View.readAt_eq_ld]
  rw [View.ld_unit_zero (S := S64x200x128) z3, View.ld_unit_zero (S := S64x200) z2, View.ld_unit_zero (S := S64x200) z2,
    View.ld_unit_zero (S := S200x64) z2, View.ld_unit_zero (S := S1x64) z2, View.ld_unit_zero (S := S1x64) z2]
  rfl

/-- A memref held whole, reading `X`. -/
abbrev ow (c : Dev nD) {sp : Space} {S : Shape} {e : EltTy} (M : Memref sig .tc sp S e) (X : S.Idx → Elt F e) : sProp 𝕄 :=
  owns (c : Thread nD τ) M fullShare X

/-- The kernel's triple: the seven inputs come back as they were, and the result's buffer reads the block. -/
theorem ln_wp (c : Dev nD) (i : grid1.Coords) (M0 : Memref sig .tc .vmem S64x200x128 .f32) (h0 : M0.IsWhole)
    (M1 : Memref sig .tc .vmem S64x200 .i32) (h1 : M1.IsWhole) (M2 : Memref sig .tc .vmem S64x200 .i32) (h2 : M2.IsWhole)
    (M3 : Memref sig .tc .vmem S200x64 .f32) (h3 : M3.IsWhole) (M4 : Memref sig .tc .vmem S2x64 .f32) (h4 : M4.IsWhole)
    (M5 : Memref sig .tc .vmem S1x64 .f32) (h5 : M5.IsWhole) (M6 : Memref sig .tc .vmem S1x64 .f32) (h6 : M6.IsWhole)
    (M7 : Memref sig .tc .vmem S64x200x64 .f32) (h7 : M7.IsWhole)
    (X0 : FVec F S64x200x128 .f32) (X1 X2 : IVec S64x200 32) (X3 : FVec F S200x64 .f32) (X4 : FVec F S2x64 .f32)
    (X5 X6 : FVec F S1x64 .f32) (X7 : FVec F S64x200x64 .f32) (E : Set ℕ) (Q : PUnit → sProp 𝕄) :
    iprop(ow c M0 X0 ∗ ow c M1 X1 ∗ ow c M2 X2 ∗ ow c M3 X3 ∗ ow c M4 X4 ∗ ow c M5 X5 ∗ ow c M6 X6 ∗ ow c M7 X7 ∗
        (iprop(ow c M0 X0 ∗ ow c M1 X1 ∗ ow c M2 X2 ∗ ow c M3 X3 ∗ ow c M4 X4 ∗ ow c M5 X5 ∗ ow c M6 X6 ∗ ow c M7 (lnBlk X0 X1 X2 X3 X4 X5 X6)) -∗ Q ⟨⟩))
      ⊢ wp frame (wpE (defs₀ (F := F)) Variants.none c none) E (cc1_ln_kernel i M0 h0 M1 h1 M2 h2 M3 h3 M4 h4 M5 h5 M6 h6 M7 h7) Q := by
  unfold ow owns
  rw [h0.set_eq_univ, h1.set_eq_univ, h2.set_eq_univ, h3.set_eq_univ, h4.set_eq_univ, h5.set_eq_univ, h6.set_eq_univ, h7.set_eq_univ]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  iapply ((lnRun (F := F) c i M0 h0 M1 h1 M2 h2 M3 h3 M4 h4 M5 h5 M6 h6 M7 h7 f0 f1 f2 f3 f4 f5 f6 f7).2 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  iexists _; isplitr; swap; (· iexact H7)
  ipureintro
  rw [lnRun_val, e0, e1, e2, e3, e4, e5, e6]

/-! ## The proof data of the region, entered at any contents of the arrays -/

variable (V : (c : Dev nD) → (b : Ref sig .tc) → Buf (Elt F) ((c : Thread nD τ).loc b))

/-- Window `w`'s block at point `t`, of the array as the region finds it. -/
abbrev iblk (c : Dev nD) (w : Fin 8) (t : Fin cfg1.N) : (cfg1.win w).block.Idx → Elt F (cfg1.win w).elt :=
  match w with
  | 0 => ((cfg1.win 0).blk t).view.read (Elt F) (V c main_v8)
  | 1 => ((cfg1.win 1).blk t).view.read (Elt F) (V c main_v1)
  | 2 => ((cfg1.win 2).blk t).view.read (Elt F) (V c main_arg1)
  | 3 => ((cfg1.win 3).blk t).view.read (Elt F) (V c main_v7)
  | 4 => ((cfg1.win 4).blk t).view.read (Elt F) (V c main_arg4)
  | 5 => ((cfg1.win 5).blk t).view.read (Elt F) (V c main_v9)
  | 6 => ((cfg1.win 6).blk t).view.read (Elt F) (V c main_v10)
  | 7 => ((cfg1.win 7).blk t).view.read (Elt F) (V c main_v11)

/-- What the body leaves in the result's buffer at point `t`. -/
abbrev oblk (c : Dev nD) (t : Fin cfg1.N) : FVec F S64x200x64 .f32 :=
  lnBlk (iblk V c 0 t) (iblk V c 1 t) (iblk V c 2 t) (iblk V c 3 t) (iblk V c 4 t) (iblk V c 5 t) (iblk V c 6 t)

def dat (c : Dev nD) : Dat τ (Elt F) (HIx 1) ℕ UU ℕ cfg1 c where
  A w := V c (Pipeline.arrRef spec1 w)
  after w t := match w with
    | 0 => iblk V c 0 t
    | 1 => iblk V c 1 t
    | 2 => iblk V c 2 t
    | 3 => iblk V c 3 t
    | 4 => iblk V c 4 t
    | 5 => iblk V c 5 t
    | 6 => iblk V c 6 t
    | 7 => oblk V c t
  Φ _ := Pipeline.scopedRest (Ix := HIx 1) (Name := ℕ) (U := UU) (Lvl := ℕ) (Val := Elt F) spec1 c
  q _ := fullShare
  owed _ := 0

theorem before0 (c : Dev nD) (t : Fin cfg1.N) (d) : (dat V c).before 0 t d = iblk V c 0 t :=
  (dat V c).before_in_eq_fetched 0 rfl (fun _ => rfl) (fun _ _ _ => rfl) (fun _ => rfl) t d
theorem before1 (c : Dev nD) (t : Fin cfg1.N) (d) : (dat V c).before 1 t d = iblk V c 1 t :=
  (dat V c).before_in_eq_fetched 1 rfl (fun _ => rfl) (fun _ _ _ => rfl) (fun _ => rfl) t d
theorem before2 (c : Dev nD) (t : Fin cfg1.N) (d) : (dat V c).before 2 t d = iblk V c 2 t :=
  (dat V c).before_in_eq_fetched 2 rfl (fun _ => rfl) (fun _ _ _ => rfl) (fun _ => rfl) t d
theorem before3 (c : Dev nD) (t : Fin cfg1.N) (d) : (dat V c).before 3 t d = iblk V c 3 t :=
  (dat V c).before_in_eq_fetched 3 rfl (fun _ => rfl) (fun _ _ _ => rfl) (fun _ => rfl) t d
theorem before4 (c : Dev nD) (t : Fin cfg1.N) (d) : (dat V c).before 4 t d = iblk V c 4 t :=
  (dat V c).before_in_eq_fetched 4 rfl (fun _ => rfl) (fun _ _ _ => rfl) (fun _ => rfl) t d
theorem before5 (c : Dev nD) (t : Fin cfg1.N) (d) : (dat V c).before 5 t d = iblk V c 5 t :=
  (dat V c).before_in_eq_fetched 5 rfl (fun _ => rfl) (fun _ _ _ => rfl) (fun _ => rfl) t d
theorem before6 (c : Dev nD) (t : Fin cfg1.N) (d) : (dat V c).before 6 t d = iblk V c 6 t :=
  (dat V c).before_in_eq_fetched 6 rfl (fun _ => rfl) (fun _ _ _ => rfl) (fun _ => rfl) t d

theorem defs₀_row (t : Fin cfg1.N) : defs₀ (F := F) .tc cfg1.body (cfg1.bodyArgs t (cfg1.slots t)) = bodyAt1 t := rfl

theorem body_obligation (c : Dev nD) : BodyObligation (dat V c) (defs₀ (F := F)) 𝒱₀ none Set.univ := fun t => by
  rw [bigSep_W1, bigSep_W1, defs₀_row]
  rw [show (dat V c).Φ t.castSucc = (dat V c).Φ t.succ from rfl,
    show (dat V c).owesAt none t.succ = (dat V c).owesAt none t.castSucc from rfl]
  simp only [before0, before1, before2, before3, before4, before5, before6]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (ln_wp (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6)) (st1_7 t) (hstage1_7 ((cfg1.slots t 7).cast nbuf1_7))
    (iblk V c 0 t) (iblk V c 1 t) (iblk V c 2 t) (iblk V c 3 t) (iblk V c 4 t) (iblk V c 5 t) (iblk V c 6 t) ((dat V c).before 7 t d7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Gather

end
-- ==== Proof.LnOut.lean ====
/-
  What the layernorm pipeline leaves in the result's array: at batch row `b`, the block of point `b / 64` at row `b % 64`.
-/
module

public import proofs.«01_k».proof.Proof.Ln

@[expose] public section

noncomputable section

namespace Cert.Proof.Gather

open Cert.KernelIdeal Cert.KernelIdeal.Gen
open Idealize.ShloMosaic
open Idealize.ShloMosaic.TcCoe
open Idealize.ShloMosaic.SparseCore (S V T)
open Idealize.SL
open Idealize.ShloMosaic.Pipeline (Dat Cfg Window)

variable {F : FTy → Type} [FloatOps F]

/-- Batch rows `[64 n, 64 n + 64)` of a `1024×200×128` array; -/
def rows3 (n : Fin 16) (P : FVec F S1024x200x128 .f32) : FVec F S64x200x128 .f32 := fun y =>
  P (ix3 (n0 := 1024) (n1 := 200) (n2 := 128) ⟨n.val * 64 + (y 0).val, by have h : (y 0).val < 64 := (y 0).isLt; omega⟩ (y 1) (y 2))
/-- and of a `1024×200` array. -/
def rows2 (n : Fin 16) (P : IVec S1024x200 32) : IVec S64x200 32 := fun y =>
  P (ix2 (n0 := 1024) (n1 := 200) ⟨n.val * 64 + (y 0).val, by have h : (y 0).val < 64 := (y 0).isLt; omega⟩ (y 1))

/-- The result's array, of the seven arrays the pipeline reads. -/
def lnOut (P : FVec F S1024x200x128 .f32) (par seg : IVec S1024x200 32) (pos : FVec F S200x64 .f32) (se : FVec F S2x64 .f32)
    (g b : FVec F S1x64 .f32) : FVec F S1024x200x64 .f32 := fun i =>
  have h : (i 0).val < 1024 := (i 0).isLt
  lnBlk (rows3 ⟨(i 0).val / 64, by omega⟩ P) (rows2 ⟨(i 0).val / 64, by omega⟩ par) (rows2 ⟨(i 0).val / 64, by omega⟩ seg) pos se g b
    (ix3 (n0 := 64) (n1 := 200) (n2 := 64) ⟨(i 0).val % 64, by omega⟩ (i 1) (i 2))

/-- The array at an index of block `n`. -/
theorem lnOut_apply (P : FVec F S1024x200x128 .f32) (par seg : IVec S1024x200 32) (pos : FVec F S200x64 .f32) (se : FVec F S2x64 .f32)
    (g b : FVec F S1x64 .f32) (n : Fin 16) (y : S64x200x64.Idx) (i : S1024x200x64.Idx) (h0 : (i 0).val = n.val * 64 + (y 0).val)
    (h1 : (i 1).val = (y 1).val) (h2 : (i 2).val = (y 2).val) :
    lnOut P par seg pos se g b i = lnBlk (rows3 n P) (rows2 n par) (rows2 n seg) pos se g b y := by
  have hy : (y 0).val < 64 := (y 0).isLt
  unfold lnOut
  have en : ∀ h, (⟨(i 0).val / 64, h⟩ : Fin 16) = n := fun h => Fin.ext (by show (i 0).val / 64 = n.val; omega)
  have ey : ∀ h, (ix3 (n0 := 64) (n1 := 200) (n2 := 64) ⟨(i 0).val % 64, h⟩ (i 1) (i 2) : S64x200x64.Idx) = y := fun h => by
    funext a
    fin_cases a
    · exact Fin.ext (by show (i 0).val % 64 = (y 0).val; omega)
    · exact Fin.ext h1
    · exact Fin.ext h2
  dsimp only
  rw [en, ey]

variable (V : (c : Dev nD) → (b : Ref sig .tc) → Buf (Elt F) ((c : Thread nD τ).loc b))

theorem e0 : ∀ t : Fin cfg1.N, win1_0.index t = ![t.val, 0, 0] := (by decide +kernel : ∀ t : Fin grid1.N, _)
theorem e1 : ∀ t : Fin cfg1.N, win1_1.index t = ![t.val, 0] := (by decide +kernel : ∀ t : Fin grid1.N, _)
theorem e2 : ∀ t : Fin cfg1.N, win1_2.index t = ![t.val, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, 0] := (by decide +kernel : ∀ t : Fin grid1.N, _)
theorem e7 : ∀ t : Fin cfg1.N, win1_7.index t = ![t.val, 0, 0] := (by decide +kernel : ∀ t : Fin grid1.N, _)

/-- A grid point as a block number. -/
def pn (t : Fin cfg1.N) : Fin 16 := t.cast N_1

theorem iblk0_eq (c : Dev nD) (t : Fin cfg1.N) : iblk V c 0 t = rows3 (pn t) (V c main_v8) := by
  funext y
  unfold rows3
  show V c main_v8 ((win1_0.blk t).view.emb y) = _
  blk_ext [e0, pn]
  rfl
theorem iblk1_eq (c : Dev nD) (t : Fin cfg1.N) : iblk V c 1 t = rows2 (pn t) (V c main_v1) := by
  funext y
  unfold rows2
  show V c main_v1 ((win1_1.blk t).view.emb y) = _
  blk_ext [e1, pn]
  rfl
theorem iblk2_eq (c : Dev nD) (t : Fin cfg1.N) : iblk V c 2 t = rows2 (pn t) (V c main_arg1) := by
  funext y
  unfold rows2
  show V c main_arg1 ((win1_2.blk t).view.emb y) = _
  blk_ext [e2, pn]
  rfl
theorem iblk3_eq (c : Dev nD) (t : Fin cfg1.N) : iblk V c 3 t = V c main_v7 := by
  funext y
  show V c main_v7 ((win1_3.blk t).view.emb y) = _
  blk_ext [e3]
theorem iblk4_eq (c : Dev nD) (t : Fin cfg1.N) : iblk V c 4 t = V c main_arg4 := by
  funext y
  show V c main_arg4 ((win1_4.blk t).view.emb y) = _
  blk_ext [e4]
theorem iblk5_eq (c : Dev nD) (t : Fin cfg1.N) : iblk V c 5 t = V c main_v9 := by
  funext y
  show V c main_v9 ((win1_5.blk t).view.emb y) = _
  blk_ext [e5]
theorem iblk6_eq (c : Dev nD) (t : Fin cfg1.N) : iblk V c 6 t = V c main_v10 := by
  funext y
  show V c main_v10 ((win1_6.blk t).view.emb y) = _
  blk_ext [e6]

/-- The result's array after the sixteen points. -/
theorem arr_out (c : Dev nD) : (dat V c).arrAt 7 cfg1.N =
    lnOut (V c main_v8) (V c main_v1) (V c main_arg1) (V c main_v7) (V c main_arg4) (V c main_v9) (V c main_v10) := by
  refine (dat V c).arrAt_eq_of_covers 7 _ (by decide +kernel) fun t hf y => ?_
  blk_simp
  show oblk V c t y = _
  unfold oblk
  rw [iblk0_eq, iblk1_eq, iblk2_eq, iblk3_eq, iblk4_eq, iblk5_eq, iblk6_eq]
  refine (lnOut_apply _ _ _ _ _ _ _ (pn t) y _ ?_ ?_ ?_).symm
  · blk_simp [e7, pn]
    rfl
  · blk_simp [e7]
  · blk_simp [e7]

end Cert.Proof.Gather

end
-- ==== Proof.Region.lean ====
/-
  The layernorm pipeline as a region of the TensorCore's program: entered with every unscoped buffer at `V`, left with the
  result's array at what the pipeline writes and everything else as it was.
-/
module

public import proofs.«01_k».proof.Proof.LnOut

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (adm : (p : Fin 1) → (pcfgs (F := F) p).Adm)

/-- The one pipeline's proof data, as a family over the pipelines. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

set_option backward.isDefEq.respectTransparency.types false in
def reg (hVp_out : ∀ c, Vp c main_v11 = (dat V c).arrAt 7 cfg1.N)
    (hVp_ne : ∀ c (b : Ref sig .tc), b ≠ main_v11 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V adm 0 c).Φ 0 = Pipeline.scopedRest spec1 c from rfl]
    iintro ⟨-, -, Hr⟩; iexact Hr
  hout c := by
    rw [Pipeline.ownSems0_none, show (pdats V adm 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v8 (by decide)).symm
        · exact ((pdats V adm 0 c).arrAt_in 1 rfl _).trans (hVp_ne c main_v1 (by decide)).symm
        · exact ((pdats V adm 0 c).arrAt_in 2 rfl _).trans (hVp_ne c main_arg1 (by decide)).symm
        · exact ((pdats V adm 0 c).arrAt_in 3 rfl _).trans (hVp_ne c main_v7 (by decide)).symm
        · exact ((pdats V adm 0 c).arrAt_in 4 rfl _).trans (hVp_ne c main_arg4 (by decide)).symm
        · exact ((pdats V adm 0 c).arrAt_in 5 rfl _).trans (hVp_ne c main_v9 (by decide)).symm
        · exact ((pdats V adm 0 c).arrAt_in 6 rfl _).trans (hVp_ne c main_v10 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Gather

end
-- ==== Proof.Host.lean ====
/-
  The host operations around the two kernels, and what the buffers hold after each stretch of them.
-/
module

public import proofs.«01_k».proof.Proof.Deal
public import proofs.«01_k».proof.Proof.Region

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Rounds
open Idealize.ShloMosaic.Tactic

variable {F : FTy → Type} [FloatOps F]

local notation "𝕄" => MT nD τ sig (HIx 1) (Elt F) ℕ UU ℕ

/-- What the host computes before the gather: the parities, the packed row numbers, the packed table. -/
def ops1 : List (HloOp τ sig (Elt F)) := [
  StableHlo.nullary main_c (constantI S_ 32 1#32),
  StableHlo.unary main_c main_v0 (broadcastInDim S1024x200 ![] bcast_S_S1024x200 : (⟨S_, .i32⟩ : BufTy).Contents (Elt F) → (⟨S1024x200, .i32⟩ : BufTy).Contents (Elt F)),
  StableHlo.binary main_arg0 main_v0 main_v1 (andi : (⟨S1024x200, .i32⟩ : BufTy).Contents (Elt F) → (⟨S1024x200, .i32⟩ : BufTy).Contents (Elt F) → (⟨S1024x200, .i32⟩ : BufTy).Contents (Elt F)),
  StableHlo.nullary main_c_0 (constantI S_ 32 1#32),
  StableHlo.unary main_c_0 main_v2 (broadcastInDim S1024x200 ![] bcast_S_S1024x200 : (⟨S_, .i32⟩ : BufTy).Contents (Elt F) → (⟨S1024x200, .i32⟩ : BufTy).Contents (Elt F)),
  StableHlo.binary main_arg0 main_v2 main_v3 (Host.shrsi : (⟨S1024x200, .i32⟩ : BufTy).Contents (Elt F) → (⟨S1024x200, .i32⟩ : BufTy).Contents (Elt F) → (⟨S1024x200, .i32⟩ : BufTy).Contents (Elt F)),
  StableHlo.reshape main_v3 main_v4 (rfl : (.i32 : EltTy) = .i32) shapeCasts_S1024x200_S1600x128,
  StableHlo.reshape main_arg2 main_v5 (rfl : (.f32 : EltTy) = .f32) shapeCasts_S1000000x64_S500000x128]

/-- And between the gather and the layernorm: the positions taken, the operands reshaped. -/
def ops2 : List (HloOp τ sig (Elt F)) := [
  StableHlo.unary main_arg3 main_v7 ((extractStridedSlice S200x64 ![0, 0] · slices_S5000x64_S200x64_0_0) : (⟨S5000x64, .f32⟩ : BufTy).Contents (Elt F) → (⟨S200x64, .f32⟩ : BufTy).Contents (Elt F)),
  StableHlo.reshape main_v6 main_v8 (rfl : (.f32 : EltTy) = .f32) shapeCasts_S204800x128_S1024x200x128,
  StableHlo.reshape main_arg5 main_v9 (rfl : (.f32 : EltTy) = .f32) shapeCasts_S64_S1x64,
  StableHlo.reshape main_arg6 main_v10 (rfl : (.f32 : EltTy) = .f32) shapeCasts_S64_S1x64]

theorem main_eq (d : Dev nD) : main (F := F) d
    = seqK ops1 ((K (F := F)).run d 0 >>= fun _ => seqK ops2
        ((Prog.lift (.customCall (SparseCore.inner (Pipeline.entry 0)) ()) : Prog (TpuEff nD τ sig (Elt F) _ .tc) PUnit) >>= fun _ => pure ⟨⟩)) := rfl

/-! ## The unscoped buffers as a set -/

/-- The buffers that live for the whole program. -/
def uc : Finset (DevRef τ sig) := (Finset.univ.filter fun b : Ref sig .tc => ¬ b.isScoped).map ⟨Proc.devRef (sig := sig) (.tc : Proc τ), Proc.devRef_injective _⟩

theorem mem_uc (b : Ref sig .tc) (h : ¬ b.isScoped) : Proc.devRef (τ := τ) .tc b ∈ uc :=
  Finset.mem_map_of_mem _ (Finset.mem_filter.mpr ⟨Finset.mem_univ _, h⟩)

theorem unscoped_held (c : Dev nD) (W : Valuation τ sig (Elt F)) :
    (unscopedBufs c (fun b => W (Proc.devRef .tc b)) : sProp 𝕄) = held (c.tc : Thread nD τ) uc W := by
  unfold unscopedBufs held uc
  rw [bigSep_map]; rfl

theorem ops1_bufs : ∀ op ∈ ops1 (F := F), op.bufs ⊆ uc := by
  unfold ops1
  simp only [List.forall_mem_cons, List.not_mem_nil, false_imp_iff, implies_true, and_true, nullary_bufs, unary_bufs, binary_bufs, reshape_bufs,
    Finset.insert_subset_iff, Finset.singleton_subset_iff]
  refine ⟨?_, ⟨?_, ?_⟩, ⟨?_, ?_, ?_⟩, ?_, ⟨?_, ?_⟩, ⟨?_, ?_, ?_⟩, ⟨?_, ?_⟩, ?_, ?_⟩ <;> exact mem_uc _ (by decide)

theorem ops2_bufs : ∀ op ∈ ops2 (F := F), op.bufs ⊆ uc := by
  unfold ops2
  simp only [List.forall_mem_cons, List.not_mem_nil, false_imp_iff, implies_true, and_true, nullary_bufs, unary_bufs, binary_bufs, reshape_bufs,
    Finset.insert_subset_iff, Finset.singleton_subset_iff]
  refine ⟨⟨?_, ?_⟩, ⟨?_, ?_⟩, ⟨?_, ?_⟩, ?_, ?_⟩ <;> exact mem_uc _ (by decide)

theorem ops1_fresh : ∀ op ∈ ops1 (F := F), op.fresh = ∅ := by
  unfold ops1
  simp only [List.forall_mem_cons, List.not_mem_nil, false_imp_iff, implies_true, and_true]
  exact ⟨rfl, rfl, rfl, rfl, rfl, rfl, rfl, rfl⟩

theorem ops2_fresh : ∀ op ∈ ops2 (F := F), op.fresh = ∅ := by
  unfold ops2
  simp only [List.forall_mem_cons, List.not_mem_nil, false_imp_iff, implies_true, and_true]
  exact ⟨rfl, rfl, rfl, rfl⟩

/-! ## The contents, stretch by stretch -/

variable (m : (ℓ : Loc nD τ sig) → Buf (Elt F) ℓ)

/-- At launch, -/
def W0 (d : Dev nD) : Valuation τ sig (Elt F) := fun b => m (d, b)
/-- after the first stretch, -/
def W1 (d : Dev nD) : Valuation τ sig (Elt F) := after ops1 (W0 m d)
/-- the list, the table and the result the gather finds, -/
def idxA (d : Dev nD) : Buf (Elt F) (iLoc d) := W1 m d (Proc.devRef .tc main_v4)
def tbA (d : Dev nD) : Buf (Elt F) (tLoc d) := W1 m d (Proc.devRef .tc main_v5)
def oA (d : Dev nD) : Buf (Elt F) (oLoc d) := W1 m d (Proc.devRef .tc main_v6)
/-- after the gather, -/
def W2 (d : Dev nD) : Valuation τ sig (Elt F) :=
  Function.update (W1 m d) (Proc.devRef .tc main_v6) (gO (F := F) (idxA m d) (tbA m d))
/-- after the second stretch, -/
def W3 (d : Dev nD) : Valuation τ sig (Elt F) := after ops2 (W2 m d)
def V3 (d : Dev nD) (b : Ref sig .tc) : Buf (Elt F) ((d : Thread nD τ).loc b) := W3 m d (Proc.devRef .tc b)
/-- and after the layernorm. -/
def V4 (d : Dev nD) : (b : Ref sig .tc) → Buf (Elt F) ((d : Thread nD τ).loc b) :=
  Function.update (V3 m d) main_v11 (lnOut (V3 m d main_v8) (V3 m d main_v1) (V3 m d main_arg1) (V3 m d main_v7)
    (V3 m d main_arg4) (V3 m d main_v9) (V3 m d main_v10))

theorem W2_ne (d : Dev nD) {b : Ref sig .tc} (h : b ≠ main_v6) : W2 m d (Proc.devRef .tc b) = W1 m d (Proc.devRef .tc b) :=
  Function.update_of_ne (devRef_ne_of_ne h) _ _
theorem W2_out (d : Dev nD) : W2 m d (Proc.devRef .tc main_v6) = gO (F := F) (idxA m d) (tbA m d) :=
  Function.update_self _ _ _

theorem V4_out (d : Dev nD) : V4 m d main_v11 = (dat (V3 m) d).arrAt 7 cfg1.N :=
  (Function.update_self _ _ _).trans (arr_out (V3 m) d).symm
theorem V4_ne (d : Dev nD) (b : Ref sig .tc) (h : b ≠ main_v11) : V4 m d b = V3 m d b :=
  Function.update_of_ne h _ _

end Cert.Proof.Gather

end
-- ==== Proof.Launch.lean ====
/-
  The whole program's run: the host operations, the gather on the SparseCores, the layernorm pipeline on the TensorCore;
  every buffer that lives for the whole program ends at the contents computed for it.
-/
module

public import proofs.«01_k».proof.Proof.Host

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

/-- The pipeline has no prefetched table: the one admissible contents. -/
abbrev adm : (p : Fin 1) → (pcfgs (F := F) p).Adm := fun p => (cfgs p).toPCfg_adm

theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- The pipeline's ghost state on core `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev PP : (K (F := F)).Pay (nD := nD) (Val := Elt F) (Name := ℕ) (U := UU) := P (idxA m) (tbA m) (oA m)

theorem ghost_split (a : UH) (b : UP) : (ownU ((a, (b, 1)) : UU) : sProp 𝕄) ⊢ iprop(BI.own (EH a) ∗ BI.own (EP b)) := by
  iintro Hu
  ihave H := (ownU_pair a ((b, 1) : UP × Counters)) $$ Hu
  icases H with ⟨HH, HR⟩
  isplitl [HH]; · iexact HH
  ihave H := (own_pair_emb (embR : Emb (UP × Counters) 𝕄) b (1 : Counters)) $$ HR
  icases H with ⟨HP, -⟩
  iexact HP

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ghost_split (F := F) _ _) $$ Hu
  icases H with ⟨HH, HP⟩
  ihave H := (Pipeline.fund_ghost (Pipeline.pin (pcfgs (F := F)) adm) EP phinj) $$ HP
  imod H with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1)
        (Φ := fun p => (Pipeline.cellsGhost (Pipeline.pin (pcfgs (F := F)) adm) EP p d : sProp 𝕄))))
      iexact Hc
    · iapply (Entails.of_eq (bigSep_congr fun d _ => bigSep_univ_of_subsingleton (0 : Fin 1)
        (Φ := fun p => (Pipeline.toksInit (Pipeline.pin (pcfgs (F := F)) adm) EP p d : sProp 𝕄))))
      iexact Ht
  rw [show (bigSep Finset.univ fun thr : Thread nD τ => bigSep Finset.univ fun q : Fin 1 => (PP (F := F) m).x q thr)
      = (bigSep Finset.univ fun _ : Thread nD τ => iprop(emp) : sProp 𝕄) from
    bigSep_congr fun _ _ => bigSep_univ_of_subsingleton (0 : Fin 1), show (bigSep Finset.univ fun _ : Thread nD τ => iprop(emp) : sProp 𝕄) = iprop(emp) from
    bigSep_emp_const _]
  iempintro

/-! ## @main on the TensorCore -/

/-- The three buffers the gather takes. -/
def gset : Finset (DevRef τ sig) := {Proc.devRef .tc main_v4, Proc.devRef .tc main_v5, Proc.devRef .tc main_v6}

theorem gset_sub : gset ⊆ uc := by
  unfold gset
  simp only [Finset.insert_subset_iff, Finset.singleton_subset_iff]
  exact ⟨mem_uc _ (by decide), mem_uc _ (by decide), mem_uc _ (by decide)⟩

theorem held_gset (d : Dev nD) (W : Valuation τ sig (Elt F)) : (held (d.tc : Thread nD τ) gset W : sProp 𝕄)
    = iprop((iLoc d ↦{fullShare} W (Proc.devRef .tc main_v4)) ∗ (tLoc d ↦{fullShare} W (Proc.devRef .tc main_v5))
        ∗ (oLoc d ↦{fullShare} W (Proc.devRef .tc main_v6))) := by
  have h45 : Proc.devRef (τ := τ) .tc main_v4 ≠ Proc.devRef .tc main_v5 := devRef_ne_of_ne (by decide)
  have h46 : Proc.devRef (τ := τ) .tc main_v4 ≠ Proc.devRef .tc main_v6 := devRef_ne_of_ne (by decide)
  have h56 : Proc.devRef (τ := τ) .tc main_v5 ≠ Proc.devRef .tc main_v6 := devRef_ne_of_ne (by decide)
  unfold held gset
  rw [SparseCore.bigSep_insert' (by simp only [Finset.mem_insert, Finset.mem_singleton, not_or]; exact ⟨h45, h46⟩),
    SparseCore.bigSep_insert' (by simp only [Finset.mem_singleton]; exact h56), bigSep_singleton]

/-- The gather's arrays before it: the two SparseCores' parts, -/
theorem before_gather (d : Dev nD) : (held (d.tc : Thread nD τ) uc (W1 m d) : sProp 𝕄)
    = iprop((bigSep Finset.univ fun c : Fin ((K (F := F)).nCore 0) => (PP m).st 0 d c) ∗ held (d.tc : Thread nD τ) (uc \ gset) (W1 m d)) := by
  rw [held_sub_split (d.tc : Thread nD τ) gset_sub, held_gset]
  congr 1
  exact whole_cores (idxA m) (tbA m) d (oA m d)

/-- and after it. -/
theorem after_gather (d : Dev nD) : (held (d.tc : Thread nD τ) uc (W2 m d) : sProp 𝕄)
    = iprop((bigSep Finset.univ fun c : Fin ((K (F := F)).nCore 0) => (PP m).dn 0 d c) ∗ held (d.tc : Thread nD τ) (uc \ gset) (W1 m d)) := by
  have h₁ : (held (d.tc : Thread nD τ) gset (W2 m d) : sProp 𝕄) = bigSep Finset.univ fun c : Fin ((K (F := F)).nCore 0) => (PP m).dn 0 d c := by
    rw [held_gset]
    have e4 : W2 m d (Proc.devRef .tc main_v4) = idxA m d := W2_ne m d (by decide)
    have e5 : W2 m d (Proc.devRef .tc main_v5) = tbA m d := W2_ne m d (by decide)
    have e6 : W2 m d (Proc.devRef .tc main_v6) = gO (F := F) (idxA m d) (tbA m d) := W2_out m d
    rw [e4, e5, e6]
    exact whole_cores (idxA m) (tbA m) d (gO (F := F) (idxA m d) (tbA m d))
  have h₂ : (held (d.tc : Thread nD τ) (uc \ gset) (W2 m d) : sProp 𝕄) = held (d.tc : Thread nD τ) (uc \ gset) (W1 m d) :=
    held_congr _ fun b hb => Function.update_of_ne
      (fun e : b = Proc.devRef .tc main_v6 => (Finset.mem_sdiff.mp hb).2 (e.symm ▸ Finset.mem_insert_of_mem (Finset.mem_insert_of_mem (Finset.mem_singleton_self _)))) _ _
  rw [held_sub_split (d.tc : Thread nD τ) gset_sub, h₁, h₂]

/-- Past the last call the TensorCore owes nothing, whatever it has waited for. -/
theorem tcSt_end (d : Dev nD) : ∃ R : sProp 𝕄, (K (F := F)).tcSt EH d 1
    = iprop((∃ W, owes (SparseCore.T d) (0 : CellTallies nD τ sig (HIx 1)) W) ∗ R) := by
  have h : iprop(∃ W, ⌜(K (F := F)).WBelow (SparseCore.T d) W (8 * 1)⌝ ∗ owes (SparseCore.T d) ((K (F := F)).Otc d 1) W)
      = (iprop(∃ W, owes (SparseCore.T d) (0 : CellTallies nD τ sig (HIx 1)) W) : sProp 𝕄) := by
    rw [(K (F := F)).Otc_end d (le_refl 1)]
    have h₁ : iprop(∃ W, ⌜(K (F := F)).WBelow (SparseCore.T d) W (8 * 1)⌝ ∗ owes (SparseCore.T d) (0 : CellTallies nD τ sig (HIx 1)) W)
        ⊢ (iprop(∃ W, owes (SparseCore.T d) (0 : CellTallies nD τ sig (HIx 1)) W) : sProp 𝕄) := by
      iintro ⟨%W, -, H⟩; iexists W; iexact H
    have h₂ : (iprop(∃ W, owes (SparseCore.T d) (0 : CellTallies nD τ sig (HIx 1)) W) : sProp 𝕄)
        ⊢ iprop(∃ W, ⌜(K (F := F)).WBelow (SparseCore.T d) W (8 * 1)⌝ ∗ owes (SparseCore.T d) (0 : CellTallies nD τ sig (HIx 1)) W) := by
      iintro ⟨%W, H⟩; iexists W
      isplitr
      · ipureintro
        rintro ⟨g, i⟩ -
        cases i with
        | none => exact Nat.zero_le _
        | some q =>
          have hq : q = 0 := Subsingleton.elim _ _
          subst hq
          have := (K (F := F)).place_le_six (SparseCore.T d, g)
          show 8 * 0 + (K (F := F)).place (SparseCore.T d, g) + 1 ≤ 8 * 1
          omega
      iexact H
    exact BI.Entails.antisymm h₁ h₂
  exact ⟨_, congrArg (fun X : sProp 𝕄 => iprop(X ∗ _)) h⟩

/-- The layernorm pipeline, called from @main. -/
theorem region_run [∀ e, Nonempty (Elt F e)] (d : Dev nD) :
    iprop(boundary (SparseCore.T d) ∗ (unscopedBufs d (V3 m d) ∗ ∃ W, owes (SparseCore.T d) (0 : CellTallies nD τ sig (HIx 1)) W)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ()) : Prog (TpuEff nD τ sig (Elt F) _ .tc) PUnit)
          fun _ => iprop(boundary (SparseCore.T d) ∗ unscopedBufs d (V4 m d) ∗ ∃ W, owes (SparseCore.T d) (0 : CellTallies nD τ sig (HIx 1)) W) := by
  have h := (K (F := F)).wp_liftProg (D (F := F)) 𝒱 (SparseCore.T d) Set.univ none
    (.op (.customCall (Λ := ΛP (F := F)) (Pipeline.entry 0) ()) .ret : Prog (TpuEff nD τ sig (Elt F) (ΛP (F := F)) .tc) PUnit)
    (fun _ => iprop(boundary (SparseCore.T d) ∗ unscopedBufs d (V4 m d) ∗ ∃ W, owes (SparseCore.T d) (0 : CellTallies nD τ sig (HIx 1)) W : sProp 𝕄))
  have hr := Pipeline.RegionSeg.wp (pcfgs (F := F)) adm (pdats (V3 m) adm) none phinj EP defs₀ 𝒱₀ (K (F := F)).L (K (F := F)).lev
    (reg (V3 m) adm (V4 m) (V4_out m) (V4_ne m)) d none (fun u hu => nomatch hu) .ret
    (fun _ => iprop(boundary (SparseCore.T d) ∗ unscopedBufs d (V4 m d) ∗ ∃ W, owes (SparseCore.T d) (0 : CellTallies nD τ sig (HIx 1)) W : sProp 𝕄))
  have hpre : iprop(unscopedBufs d (V3 m d) ∗ ∃ W, owes (SparseCore.T d) (0 : CellTallies nD τ sig (HIx 1)) W)
      = ((reg (V3 m) adm (V4 m) (V4_out m) (V4_ne m)).pre d : sProp 𝕄) := rfl
  have hpost : ((reg (V3 m) adm (V4 m) (V4_out m) (V4_ne m)).post d : sProp 𝕄)
      = iprop(unscopedBufs d (V4 m d) ∗ ∃ W, owes (SparseCore.T d) (0 : CellTallies nD τ sig (HIx 1)) W) := rfl
  iintro ⟨Hb, Hpre, #Hlev, ⟨Hc, Ht⟩⟩
  iapply h
  iapply hr
  isplitr
  · iintro ⟨Hb, Hpost⟩
    rw [wp_ret]
    imodintro
    isplitl [Hb]; · iexact Hb
    iapply (Entails.of_eq hpost); iexact Hpost
  isplitl [Hb]; · iexact Hb
  isplitl [Hpre]; · iapply (Entails.of_eq hpre); iexact Hpre
  isplitr; · iexact Hlev
  isplitl [Hc]; · iexact Hc
  iexact Ht

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ unscopedBufs d (V4 m d) ∗ (K (F := F)).tcEnd d) := by
  unfold SparseCore.Cfg.tcRes SparseCore.Cfg.tcEnd
  rw [main_eq, ← seq_bind_seqK, show (unscopedBufs d (fun b => m ((SparseCore.T d).loc b)) : sProp 𝕄) = held (d.tc : Thread nD τ) uc (W0 m d) from
    unscoped_held d (W0 m d)]
  obtain ⟨R, hR⟩ := tcSt_end (F := F) d
  iintro ⟨#Hctx, Hst, ⟨Hb, Hbufs, Hts, -⟩, HG⟩
  ihave #Hlev := (SparseCore.Cfg.ctx_levAts κ) $$ Hctx
  iapply (wp_seq 𝒱 none Set.univ d uc _ ops1 ops1_bufs ops1_fresh (W0 m d)) $$ [Hb Hbufs]
  · isplitl [Hb] <;> iassumption
  iintro ⟨Hb, Hbufs⟩
  ihave H := (Entails.of_eq (before_gather m d)) $$ [Hbufs]
  · iexact Hbufs
  icases H with ⟨Hgo, Hrest⟩
  rw [wp_bind]
  iapply ((K (F := F)).wp_run (D (F := F)) 𝒱 (EH := EH) (P := PP m) κ d 0) $$ [Hst Hgo Hb Hts Hrest HG]
  isplitr; · iexact Hctx
  isplitl [Hst]; · iexact Hst
  isplitl [Hgo]; · iexact Hgo
  iintro ⟨Hst, Hdn⟩
  ihave Hbufs := (Entails.of_eq (after_gather m d).symm) $$ [Hdn Hrest]
  · isplitl [Hdn] <;> iassumption
  rw [← seq_bind_seqK]
  iapply (wp_seq 𝒱 none Set.univ d uc _ ops2 ops2_bufs ops2_fresh (W2 m d)) $$ [Hb Hbufs]
  · isplitl [Hb] <;> iassumption
  iintro ⟨Hb, Hbufs⟩
  ihave Hbufs := (Entails.of_eq (unscoped_held d (W3 m d)).symm) $$ [Hbufs]
  · iexact Hbufs
  ihave H := (Entails.of_eq hR) $$ [Hst]
  · iexact Hst
  icases H with ⟨HO, HR⟩
  rw [wp_bind]
  iapply (wp_wand_r frame (wpE ((K (F := F)).defs (D (F := F))) 𝒱 (SparseCore.T d) none) Set.univ)
  isplitl [Hb Hbufs HO HG]
  · iapply (region_run m d)
    isplitl [Hb]; · iexact Hb
    isplitl [Hbufs HO]
    · isplitl [Hbufs]; · iexact Hbufs
      iexact HO
    isplitr; · iexact Hlev
    iexact HG
  iintro %a ⟨Hb, Hbufs, HO⟩
  rw [wp_pure]
  imodintro
  isplitl [HO HR]
  · iapply (Entails.of_eq hR.symm)
    isplitl [HO] <;> iassumption
  isplitl [Hbufs]; · iexact Hbufs
  isplitl [Hb] <;> iassumption

/-! ## What the memory holds at the end -/

def fq (d : Dev nD) (s' : Phys nD τ sig (Elt F)) : Prop :=
  ∀ b : Ref sig .tc, ¬ b.isScoped → s'.mem.mem ((d : Thread nD τ).loc b) = V4 m d b

theorem hfin_one (d : Dev nD) (s' : Phys nD τ sig (Elt F)) (b : Ref sig .tc) (hb : ¬ b.isScoped) :
    iprop(unscopedBufs d (V4 m d) ∗ SI s') ⊢ (⌜s'.mem.mem ((d : Thread nD τ).loc b) = V4 m d b⌝ : sProp 𝕄) := by
  have he : (unscopedBufs d (V4 m d) : sProp 𝕄) ⊢ (((d : Thread nD τ).loc b) ↦{fullShare} V4 m d b) :=
    bigSep_elim (Finset.mem_filter.mpr ⟨Finset.mem_univ b, hb⟩)
  iintro ⟨H, HSI⟩
  ihave Hx := he $$ H
  ihave H := (SI_pointsTo_agree (st := s') (ℓ := (d : Thread nD τ).loc b) (I := Finset.univ) (q := fullShare) (f := V4 m d b)) $$ [HSI Hx]
  · isplitl [HSI] <;> iassumption
  icases H with %h
  ipureintro; exact funext fun i => h i (Finset.mem_univ i)

theorem hfin (d : Dev nD) (s' : Phys nD τ sig (Elt F)) : iprop(unscopedBufs d (V4 m d) ∗ SI s') ⊢ (⌜fq m d s'⌝ : sProp 𝕄) :=
  ((Laws.forall_intro fun b => (Laws.forall_intro fun hb => hfin_one m d s' b hb).trans Laws.pure_forall.2).trans Laws.pure_forall.2).trans
    (Laws.pure_mono fun h => h)

/-- What the run leaves: on every device, every buffer of the whole program at its computed contents, every counter at zero. -/
def QC : PUnit × MemSt nD τ sig (Elt F) → Prop := fun r =>
  (∀ d : Dev nD, ∀ b : Ref sig .tc, ¬ b.isScoped → r.2.mem ((d : Thread nD τ).loc b) = V4 m d b) ∧ r.2.sem = fun _ => 0

theorem run_main [∀ e, Nonempty (Elt F e)] (hidx : ∀ d j, (idxA m d j).toNat < 500000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (idxA m) (tbA m) (oA m) hidx)
    (fun q _ => match q with | 0 => SparseCore.Cfg.VecSplit.of_plain (vecSplit (idxA m) (tbA m) (oA m)))
    m ρ main (fun d => G d) (fun d => unscopedBufs d (V4 m d)) (u₀ (F := F)) (sep_elim_left.trans (hu₀ m)) (hmain m ρ) (fq m) (hfin m) (QC m)
    (fun _ h hz => ⟨h, hz⟩)

end Cert.Proof.Gather

end
-- ==== Proof.Values.lean ====
/-
  What the buffers of the whole program end at, in terms of the arguments, and what the range of `x` gives of the list.
-/
module

public import proofs.«01_k».proof.Proof.Launch

@[expose] public section

noncomputable section

namespace Cert.Proof.Gather

open Cert.KernelIdeal Cert.KernelIdeal.Gen
open Idealize.ShloMosaic
open Idealize.ShloMosaic.TcCoe
open Idealize.ShloMosaic.StableHlo

variable {F : FTy → Type} [FloatOps F]

variable (m : (ℓ : Loc nD τ sig) → Buf (Elt F) ℓ)

/-- The contents of buffer `b` at launch. -/
abbrev at0 (d : Dev nD) (b : Ref sig .tc) : Buf (Elt F) ((d : Thread nD τ).loc b) := m ((d : Thread nD τ).loc b)

theorem V4_arg0 (d : Dev nD) : V4 m d main_arg0 = at0 m d main_arg0 := by
  rw [V4_ne m d _ (by decide)]; unfold V3 W3 ops2; after_results
  rw [W2_ne m d (by decide)]; unfold W1 ops1; after_results; rfl
theorem V4_arg1 (d : Dev nD) : V4 m d main_arg1 = at0 m d main_arg1 := by
  rw [V4_ne m d _ (by decide)]; unfold V3 W3 ops2; after_results
  rw [W2_ne m d (by decide)]; unfold W1 ops1; after_results; rfl
theorem V4_arg2 (d : Dev nD) : V4 m d main_arg2 = at0 m d main_arg2 := by
  rw [V4_ne m d _ (by decide)]; unfold V3 W3 ops2; after_results
  rw [W2_ne m d (by decide)]; unfold W1 ops1; after_results; rfl
theorem V4_arg3 (d : Dev nD) : V4 m d main_arg3 = at0 m d main_arg3 := by
  rw [V4_ne m d _ (by decide)]; unfold V3 W3 ops2; after_results
  rw [W2_ne m d (by decide)]; unfold W1 ops1; after_results; rfl
theorem V4_arg4 (d : Dev nD) : V4 m d main_arg4 = at0 m d main_arg4 := by
  rw [V4_ne m d _ (by decide)]; unfold V3 W3 ops2; after_results
  rw [W2_ne m d (by decide)]; unfold W1 ops1; after_results; rfl
theorem V4_arg5 (d : Dev nD) : V4 m d main_arg5 = at0 m d main_arg5 := by
  rw [V4_ne m d _ (by decide)]; unfold V3 W3 ops2; after_results
  rw [W2_ne m d (by decide)]; unfold W1 ops1; after_results; rfl
theorem V4_arg6 (d : Dev nD) : V4 m d main_arg6 = at0 m d main_arg6 := by
  rw [V4_ne m d _ (by decide)]; unfold V3 W3 ops2; after_results
  rw [W2_ne m d (by decide)]; unfold W1 ops1; after_results; rfl

/-- Every lane the word one. -/
abbrev ones : IVec S1024x200 32 := broadcastInDim S1024x200 ![] bcast_S_S1024x200 (constantI S_ 32 1#32)

theorem idxA_eq (d : Dev nD) : idxA m d = shapeCast S1600x128 (Host.shrsi (at0 m d main_arg0) ones) shapeCasts_S1024x200_S1600x128 := by
  unfold idxA W1 ops1; after_results; rfl
theorem tbA_eq (d : Dev nD) : tbA m d = shapeCast S500000x128 (at0 m d main_arg2) shapeCasts_S1000000x64_S500000x128 := by
  unfold tbA W1 ops1; after_results; rfl

theorem V3_v1 (d : Dev nD) : V3 m d main_v1 = andi (at0 m d main_arg0) ones := by
  unfold V3 W3 ops2; after_results
  rw [W2_ne m d (by decide)]; unfold W1 ops1; after_results; rfl
theorem V3_v7 (d : Dev nD) : V3 m d main_v7 = extractStridedSlice S200x64 ![0, 0] (at0 m d main_arg3) slices_S5000x64_S200x64_0_0 := by
  unfold V3 W3 ops2; after_results
  rw [W2_ne m d (by decide)]; unfold W1 ops1; after_results; rfl
theorem V3_v8 (d : Dev nD) : V3 m d main_v8 = shapeCast S1024x200x128 (gO (F := F) (idxA m d) (tbA m d)) shapeCasts_S204800x128_S1024x200x128 := by
  unfold V3 W3 ops2; after_results
  rw [W2_out]; rfl
theorem V3_v9 (d : Dev nD) : V3 m d main_v9 = shapeCast S1x64 (at0 m d main_arg5) shapeCasts_S64_S1x64 := by
  unfold V3 W3 ops2; after_results
  rw [W2_ne m d (by decide)]; unfold W1 ops1; after_results; rfl
theorem V3_v10 (d : Dev nD) : V3 m d main_v10 = shapeCast S1x64 (at0 m d main_arg6) shapeCasts_S64_S1x64 := by
  unfold V3 W3 ops2; after_results
  rw [W2_ne m d (by decide)]; unfold W1 ops1; after_results; rfl

/-- The result, from the arguments. -/
theorem V4_v11 (d : Dev nD) : V4 m d main_v11
    = lnOut (shapeCast S1024x200x128 (gO (F := F) (idxA m d) (tbA m d)) shapeCasts_S204800x128_S1024x200x128)
        (andi (at0 m d main_arg0) ones) (at0 m d main_arg1)
        (extractStridedSlice S200x64 ![0, 0] (at0 m d main_arg3) slices_S5000x64_S200x64_0_0)
        (at0 m d main_arg4) (shapeCast S1x64 (at0 m d main_arg5) shapeCasts_S64_S1x64) (shapeCast S1x64 (at0 m d main_arg6) shapeCasts_S64_S1x64) := by
  have e1 : V3 m d main_arg1 = at0 m d main_arg1 := (V4_ne m d _ (by decide)).symm.trans (V4_arg1 m d)
  have e4 : V3 m d main_arg4 = at0 m d main_arg4 := (V4_ne m d _ (by decide)).symm.trans (V4_arg4 m d)
  rw [V4_out, arr_out, V3_v8, V3_v1, e1, V3_v7, e4, V3_v9, V3_v10]

/-! ## The list's range -/

/-- Every token number names a row of the table. -/
def PreOK : Prop := ∀ (d : Dev nD) (j : S1024x200.Idx), ((at0 m d main_arg0 : IVec S1024x200 32) j).toNat < 1000000

theorem half_toNat (v : BitVec 32) (h : v.toNat < 1000000) : (IntOp.shrsi .host v 1#32).toNat = v.toNat / 2 := by
  have hm : v.msb = false := by
    rw [BitVec.msb_eq_false_iff_two_mul_lt]; omega
  unfold IntOp.shrsi
  rw [if_pos (by decide), BitVec.sshiftRight_eq', BitVec.sshiftRight_eq_of_msb_false hm, BitVec.toNat_ushiftRight]
  exact Nat.shiftRight_one _

theorem idxA_lt (h : PreOK m) (d : Dev nD) (j : S1600x128.Idx) : (idxA m d j).toNat < 500000 := by
  rw [idxA_eq]
  have h' := h d (Shape.reshapeEquiv shapeCasts_S1024x200_S1600x128 j)
  show (IntOp.shrsi .host ((at0 m d main_arg0 : IVec S1024x200 32) (Shape.reshapeEquiv shapeCasts_S1024x200_S1600x128 j)) 1#32).toNat < 500000
  rw [half_toNat _ h']
  omega

/-- The words of `x` in range: non-negative and below a million as signed words. -/
theorem word_range (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-! ## The run, as a claim states it -/

open Idealize.SL.Sem in
theorem run_frame [∀ e, Nonempty (Elt F e)] (ρ : Dev nD → PrngReg) (h : PreOK m) :
    θ_run (Cert.KernelIdeal.defs (F := F)) (Cert.KernelIdeal.threads (F := F)) ⟨m, fun _ => 0, ρ⟩ (fun r =>
      (∀ c : Dev nD, (r.2.mem ((c.tc : Thread nD τ).loc main_v11) = V4 m c main_v11)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run Cert.KernelIdeal.defs _ _).mono
    (fun _ hq => ⟨fun c => ⟨hq.1 c main_v11 (by decide),
      (hq.1 c main_arg0 (by decide)).trans (V4_arg0 m c), (hq.1 c main_arg1 (by decide)).trans (V4_arg1 m c),
      (hq.1 c main_arg2 (by decide)).trans (V4_arg2 m c), (hq.1 c main_arg3 (by decide)).trans (V4_arg3 m c),
      (hq.1 c main_arg4 (by decide)).trans (V4_arg4 m c), (hq.1 c main_arg5 (by decide)).trans (V4_arg5 m c),
      (hq.1 c main_arg6 (by decide)).trans (V4_arg6 m c)⟩, hq.2⟩)
    (run_main m ρ (idxA_lt m h))

end Cert.Proof.Gather

end
-- ==== Proof.Same.lean ====
module
public import proofs.«01_k».proof.Defs
public import proofs.«01_k».proof.Proof.Gen.Kernel
public import proofs.«01_k».proof.Proof.Gen.KernelIdeal

/-!
# The printed program and its ideal form are one program

The ideal pass rewrote nothing, so the two printed modules hold the same code under two names. The bodies of the
labels are compared one label at a time, then the whole definitions and the threads.
-/

@[expose] public section
noncomputable section
open Idealize.ShloMosaic Idealize.SL.Sem
namespace Cert.Proof

attribute [local instance] Cert.Kernel.Gen.facts Cert.KernelIdeal.Gen.facts

/-- Each label's body is the same in both. -/
theorem bodies_same : (@Cert.Kernel.defs₀ Bits _ _ : Defs Cert.KernelIdeal.nD Cert.KernelIdeal.τ Cert.KernelIdeal.sig
    (Elt Bits) Cert.KernelIdeal.Λ₀) = @Cert.KernelIdeal.defs₀ Bits _ _ := by
  funext c ℓ a
  match c, ℓ, a with
  | .scVector c s, ⟨0, _⟩, _ => rfl
  | .scVector c s, ⟨1, _⟩, _ => rfl
  | .tc, ⟨0, _⟩, _ => rfl
  | .tc, ⟨1, _⟩, (t, s) => rfl
  | .scScalar c, ⟨0, _⟩, _ => rfl
  | .scScalar c, ⟨1, _⟩, _ => rfl

/-- The definitions the two programs run over are the same. -/
theorem defs_same : @Cert.Kernel.defs Bits _ _ = @Cert.KernelIdeal.defs Bits _ _ :=
  congrArg (fun d => (@Cert.KernelIdeal.sc Bits _).defs (Pipeline.defs (@Cert.KernelIdeal.pcfgs Bits _) d)) bodies_same

/-- The host programs are the same. -/
theorem main_same : (fun d => @Cert.Kernel.main Bits _ d) = fun d => @Cert.KernelIdeal.main Bits _ d := rfl

/-- So are the threads. -/
theorem threads_same : (fun d => @Cert.Kernel.threads Bits _ d) = fun d => @Cert.KernelIdeal.threads Bits _ d := rfl

end Cert.Proof
end
-- ==== Proof.Row.lean ====
/-
  One row of sixty-four extended reals: its mean, its variance, its normalisation; a choice between two numbers written as
  arithmetic; a number whose magnitude is below infinity.
-/
module

public import Idealize.ShloMosaic.PureOps.Ideal.Laws
public import Idealize.ShloMosaic.Lib.IdealHost

@[expose] public section

noncomputable section

namespace Cert.Proof.Row

open Idealize.ShloMosaic

/-- The number of entries of a row, as both programs write it, -/
theorem c64_eq : Ideal.ofBits .f32 0x42800000#32 = ((64 : ℝ) : EReal) := by
  simp [Ideal.ofBits, Ideal.ieee, -EReal.coe_mul]; norm_num

/-- the small number that both add to a variance, -/
theorem eps_pos : ∃ r : ℝ, 0 < r ∧ Ideal.ofBits .f32 0x3727C5AC#32 = (r : EReal) := by
  refine ⟨_, ?_, by simp only [Ideal.ofBits, Ideal.ieee]; rw [if_neg (by decide), if_neg (by decide)]⟩
  rw [if_neg (by decide)]
  positivity

/-- and infinity. -/
theorem inf_eq : Ideal.ofBits .f32 0x7F800000#32 = (⊤ : EReal) := by
  simp [Ideal.ofBits, Ideal.ieee]

/-- The mean of a row. -/
def mean (e : Fin 64 → EReal) : EReal := Ideal.div (∑ k, e k) (Ideal.ofBits .f32 0x42800000#32)

/-- The mean of the squared distances from the mean. -/
def var (e : Fin 64 → EReal) : EReal := Ideal.div (∑ k, (e k - mean e) * (e k - mean e)) (Ideal.ofBits .f32 0x42800000#32)

/-- Entry `k`, normalised. -/
def norm (e : Fin 64 → EReal) (k : Fin 64) : EReal :=
  (e k - mean e) * Ideal.rsqrt (var e + Ideal.ofBits .f32 0x3727C5AC#32)

theorem sq_nonneg (x : EReal) : 0 ≤ x * x := by
  induction x with
  | bot => simp
  | top => simp
  | coe r => exact_mod_cast mul_self_nonneg r

theorem var_nonneg (e : Fin 64 → EReal) : 0 ≤ var e := by
  unfold var
  rw [c64_eq, Ideal.div_coe (by norm_num)]
  exact mul_nonneg (Finset.sum_nonneg fun k _ => sq_nonneg _) (by exact_mod_cast (by norm_num : (0 : ℝ) ≤ 1 / 64))

/-- Dividing by a square root is multiplying by its reciprocal, of a number that is not negative plus one that is positive:
    of infinity too, where both give zero. -/
theorem div_sqrt (x y : EReal) (hy : 0 ≤ y) (r : ℝ) (hr : 0 < r) : Ideal.div x (Ideal.sqrt (y + r)) = x * Ideal.rsqrt (y + r) := by
  induction y with
  | bot => simp at hy
  | top =>
    rw [EReal.top_add_coe]
    show Ideal.div x ⊤ = x * 0
    unfold Ideal.div
    rw [if_neg (by simp), EReal.inv_top]
  | coe q =>
    have hq : 0 ≤ q := by exact_mod_cast hy
    have hp : 0 < q + r := by linarith
    have hs : Real.sqrt (q + r) ≠ 0 := (Real.sqrt_pos.mpr hp).ne'
    rw [← EReal.coe_add]
    show Ideal.div x (if q + r < 0 then ⊥ else (Real.sqrt (q + r) : EReal))
      = x * (if q + r < 0 then ⊥ else if q + r = 0 then ⊤ else (((Real.sqrt (q + r))⁻¹ : ℝ) : EReal))
    rw [if_neg (by linarith), if_neg (by linarith), if_neg hp.ne', Ideal.div_coe hs, one_div]

/-- The normalised entry, with a quotient by the root. -/
theorem norm_eq_div (e : Fin 64 → EReal) (k : Fin 64) :
    Ideal.div (e k - mean e) (Ideal.sqrt (var e + Ideal.ofBits .f32 0x3727C5AC#32)) = norm e k := by
  obtain ⟨r, hr, he⟩ := eps_pos
  unfold norm
  rw [he]
  exact div_sqrt _ _ (var_nonneg e) r hr

/-- `a + p (b - a)` at `p = 0`, -/
theorem blend_zero (a b : EReal) : a + ((0 : ℝ) : EReal) * (b - a) = a := by
  rw [EReal.coe_zero, zero_mul, add_zero]

/-- and at `p = 1`, of a finite `a`. -/
theorem blend_one (a : ℝ) (b : EReal) : (a : EReal) + ((1 : ℝ) : EReal) * (b - a) = b := by
  rw [EReal.coe_one, one_mul]
  induction b with
  | bot => simp
  | top => simp
  | coe q =>
    rw [← EReal.coe_sub, ← EReal.coe_add]
    congr 1
    ring

/-- A number whose magnitude compares below infinity is real. -/
theorem finite_of_cmp (x : EReal) (h : Ideal.cmp .olt (max x (-x)) (Ideal.ofBits .f32 0x7F800000#32) = 1#1) : ∃ r : ℝ, x = (r : EReal) := by
  rw [inf_eq] at h
  have h' : max x (-x) < ⊤ := by
    by_contra hc
    simp [Ideal.cmp, hc] at h
  induction x with
  | bot => simp at h'
  | top => simp at h'
  | coe r => exact ⟨r, rfl⟩

end Cert.Proof.Row

end
-- ==== Proof.KerVal.lean ====
/-
  The kernel's block at an element, over the extended reals: the row of sums it builds, normalised, scaled and shifted.
-/
module

public import proofs.«01_k».proof.Proof.LnOut
public import proofs.«01_k».proof.Proof.Row
public import Idealize.ShloMosaic.Lib.Pointwise

@[expose] public section

noncomputable section

namespace Cert.Proof.Gather

open Cert.KernelIdeal Cert.KernelIdeal.Gen
open Idealize.ShloMosaic

/-- The sum at column `k`: the chosen half of a packed row, the position's row, the chosen segment row. -/
def kSum (lo hi pos s0 s1 : EReal) (p s : BitVec 32) : EReal :=
  lo + ((p.toInt : ℝ) : EReal) * (hi - lo) + pos + (s0 + ((s.toInt : ℝ) : EReal) * (s1 - s0))

variable (X0 : FVec Ideal S64x200x128 .f32) (X1 X2 : IVec S64x200 32) (X3 : FVec Ideal S200x64 .f32) (X4 : FVec Ideal S2x64 .f32)
    (X5 X6 : FVec Ideal S1x64 .f32)

/-- A row of the block's sums. -/
def kRow (a : Fin 64) (l : Fin 200) (k : Fin 64) : EReal :=
  kSum (X0 (ix3 (n0 := 64) (n1 := 200) (n2 := 128) a l ⟨k.val, by omega⟩)) (X0 (ix3 (n0 := 64) (n1 := 200) (n2 := 128) a l ⟨64 + k.val, by omega⟩))
    (X3 (ix2 (n0 := 200) (n1 := 64) l k)) (X4 (ix2 (n0 := 2) (n1 := 64) 0 k)) (X4 (ix2 (n0 := 2) (n1 := 64) 1 k))
    (X1 (ix2 (n0 := 64) (n1 := 200) a l)) (X2 (ix2 (n0 := 64) (n1 := 200) a l))

set_option maxRecDepth 16384 in
theorem lnBlk_apply (a : Fin 64) (l : Fin 200) (k : Fin 64) :
    lnBlk X0 X1 X2 X3 X4 X5 X6 (ix3 (n0 := 64) (n1 := 200) (n2 := 64) a l k)
      = Row.norm (kRow X0 X1 X2 X3 X4 a l) k * X5 (ix2 (n0 := 1) (n1 := 64) 0 k) + X6 (ix2 (n0 := 1) (n1 := 64) 0 k) := by
  unfold lnBlk
  pointwise [k1_pay1, k1_pay2, k1_pay3]
  rfl

end Cert.Proof.Gather

end
-- ==== Proof.KerRow.lean ====
/-
  The kernel's result at an element, from the arguments: the token's row, the position's row and the segment's row added,
  normalised, scaled and shifted.
-/
module

public import proofs.«01_k».proof.Proof.KerVal
public import proofs.«01_k».proof.Proof.Values

@[expose] public section

noncomputable section

namespace Cert.Proof.Gather

open Cert.KernelIdeal Cert.KernelIdeal.Gen
open Idealize.ShloMosaic
open Idealize.ShloMosaic.TcCoe

/-- The row of an `n`-row table that a signed word names, the nearest one when it names none. -/
def near (n : ℕ) (hn : 0 < n) (w : BitVec 32) : Fin n := ⟨min w.toInt.toNat (n - 1), by omega⟩

theorem near_val {n : ℕ} (hn : 0 < n) (hn' : n < 2 ^ 31) {w : BitVec 32} (h : w.toNat < n) : (near n hn w).val = w.toNat := by
  have e : w.toInt = w.toNat := by rw [BitVec.toInt_eq_toNat_cond, if_pos (by omega)]
  show min w.toInt.toNat (n - 1) = w.toNat
  rw [e, Int.toNat_natCast]; omega

/-- A row of the sums: token, position, segment. -/
def embRow (x seg : IVec S1024x200 32) (tok : FVec Ideal S1000000x64 .f32) (pos : FVec Ideal S5000x64 .f32) (se : FVec Ideal S2x64 .f32)
    (b : Fin 1024) (l : Fin 200) (k : Fin 64) : EReal :=
  tok (ix2 (n0 := 1000000) (n1 := 64) (near 1000000 (by omega) (x (ix2 (n0 := 1024) (n1 := 200) b l))) k)
    + pos (ix2 (n0 := 5000) (n1 := 64) ⟨l.val, by omega⟩ k)
    + se (ix2 (n0 := 2) (n1 := 64) (near 2 (by omega) (seg (ix2 (n0 := 1024) (n1 := 200) b l))) k)

/-! ## The reshapes -/

theorem cast_rows {α : Type} (z : S204800x128.Idx → α) (b : Fin 1024) (l : Fin 200) (c : Fin 128) :
    shapeCast S1024x200x128 z shapeCasts_S204800x128_S1024x200x128 (ix3 (n0 := 1024) (n1 := 200) (n2 := 128) b l c)
      = z (ix2 (n0 := 204800) (n1 := 128) ⟨b.val * 200 + l.val, by omega⟩ c) := by
  refine congrArg z (Shape.reshapeEquiv_eq_of_vals _ _ _ _ _ (rowMajor_val2 _ 128 rfl) (rowMajor_val3 _ 25600 128 rfl rfl) ?_)
  show (b.val * 200 + l.val) * 128 + c.val = b.val * 25600 + l.val * 128 + c.val
  omega

theorem cast_table {α : Type} (z : S1000000x64.Idx → α) (q : Fin 500000) (c : Fin 128) :
    shapeCast S500000x128 z shapeCasts_S1000000x64_S500000x128 (ix2 (n0 := 500000) (n1 := 128) q c)
      = z (ix2 (n0 := 1000000) (n1 := 64) ⟨2 * q.val + c.val / 64, by omega⟩ ⟨c.val % 64, Nat.mod_lt _ (by decide)⟩) := by
  refine congrArg z (Shape.reshapeEquiv_eq_of_vals _ _ _ _ _ (rowMajor_val2 _ 64 rfl) (rowMajor_val2 _ 128 rfl) ?_)
  show (2 * q.val + c.val / 64) * 64 + c.val % 64 = q.val * 128 + c.val
  omega

theorem cast_list {α : Type} (z : S1024x200.Idx → α) (p : Fin 1600) (q : Fin 128) (b : Fin 1024) (l : Fin 200)
    (h : p.val * 128 + q.val = b.val * 200 + l.val) :
    shapeCast S1600x128 z shapeCasts_S1024x200_S1600x128 (ix2 (n0 := 1600) (n1 := 128) p q)
      = z (ix2 (n0 := 1024) (n1 := 200) b l) :=
  congrArg z (Shape.reshapeEquiv_eq_of_vals _ _ _ _ _ (rowMajor_val2 _ 200 rfl) (rowMajor_val2 _ 128 rfl) h.symm)

variable (m : (ℓ : Loc nD τ sig) → Buf (Elt Ideal) ℓ)

/-- The gathered rows at `(b, l, c)`: half `c / 64` of the packed row that holds the token's. -/
theorem packed_at (h : PreOK m) (d : Dev nD) (b : Fin 1024) (l : Fin 200) (c : Fin 128)
    (hq : 2 * (((at0 m d main_arg0 : IVec S1024x200 32) (ix2 (n0 := 1024) (n1 := 200) b l)).toNat / 2) + c.val / 64 < 1000000) :
    shapeCast S1024x200x128 (gO (F := Ideal) (idxA m d) (tbA m d)) shapeCasts_S204800x128_S1024x200x128 (ix3 (n0 := 1024) (n1 := 200) (n2 := 128) b l c)
      = (at0 m d main_arg2 : FVec Ideal S1000000x64 .f32) (ix2 (n0 := 1000000) (n1 := 64)
          ⟨2 * (((at0 m d main_arg0 : IVec S1024x200 32) (ix2 (n0 := 1024) (n1 := 200) b l)).toNat / 2) + c.val / 64, hq⟩
          ⟨c.val % 64, Nat.mod_lt _ (by decide)⟩) := by
  have hw := h d (ix2 (n0 := 1024) (n1 := 200) b l)
  have ei : idxA m d (ix2 (n0 := 1600) (n1 := 128) ⟨(b.val * 200 + l.val) / 128, by omega⟩ ⟨(b.val * 200 + l.val) % 128, Nat.mod_lt _ (by decide)⟩)
      = IntOp.shrsi .host ((at0 m d main_arg0 : IVec S1024x200 32) (ix2 (n0 := 1024) (n1 := 200) b l)) 1#32 := by
    rw [idxA_eq, cast_list _ _ _ b l (by show (b.val * 200 + l.val) / 128 * 128 + (b.val * 200 + l.val) % 128 = _; omega)]
    rfl
  have er : (rowF (F := Ideal) (idxA m d (ix2 (n0 := 1600) (n1 := 128) ⟨(b.val * 200 + l.val) / 128, by omega⟩
      ⟨(b.val * 200 + l.val) % 128, Nat.mod_lt _ (by decide)⟩))).val
      = ((at0 m d main_arg0 : IVec S1024x200 32) (ix2 (n0 := 1024) (n1 := 200) b l)).toNat / 2 := by
    rw [ei]
    have hh := half_toNat _ hw
    unfold rowF
    rw [dif_pos (by rw [hh]; omega)]
    exact hh
  refine (cast_rows _ b l c).trans ?_
  refine (congrFun (tbA_eq m d) _).trans ?_
  refine (cast_table _ (rowF (F := Ideal) (idxA m d (ix2 (n0 := 1600) (n1 := 128) ⟨(b.val * 200 + l.val) / 128, by omega⟩
      ⟨(b.val * 200 + l.val) % 128, Nat.mod_lt _ (by decide)⟩))) c).trans ?_
  congr 2
  exact Fin.ext (congrArg (fun n => 2 * n + c.val / 64) er)

/-! ## The choices -/

theorem and_one (w : BitVec 32) : (IntOp.andi w 1#32).toInt = ((w.toNat % 2 : ℕ) : ℤ) := by
  have e : (IntOp.andi w 1#32).toNat = w.toNat % 2 := by
    show (w &&& 1#32).toNat = _
    rw [BitVec.toNat_and]
    exact Nat.and_one_is_mod _
  rw [BitVec.toInt_eq_toNat_cond, e, if_pos (by omega)]

/-- The half the low bit chooses. -/
theorem choose_half (lo hi : EReal) (hlo : ∃ r : ℝ, lo = r) (w : BitVec 32) :
    lo + (((IntOp.andi w 1#32).toInt : ℝ) : EReal) * (hi - lo) = if w.toNat % 2 = 0 then lo else hi := by
  obtain ⟨r, rfl⟩ := hlo
  rw [and_one]
  rcases Nat.mod_two_eq_zero_or_one w.toNat with e | e
  · rw [e, if_pos rfl]
    exact_mod_cast Row.blend_zero _ _
  · rw [e, if_neg (by omega)]
    exact_mod_cast Row.blend_one _ _

/-- The segment's row. -/
theorem choose_seg (s0 s1 : EReal) (hs : ∃ r : ℝ, s0 = r) (w : BitVec 32) (h : w.toNat < 2) :
    s0 + ((w.toInt : ℝ) : EReal) * (s1 - s0) = if w.toNat = 0 then s0 else s1 := by
  obtain ⟨r, rfl⟩ := hs
  have e : w.toInt = w.toNat := by rw [BitVec.toInt_eq_toNat_cond, if_pos (by omega)]
  rw [e]
  rcases (by omega : w.toNat = 0 ∨ w.toNat = 1) with e | e
  · rw [e, if_pos rfl]
    exact_mod_cast Row.blend_zero _ _
  · rw [e, if_neg (by omega)]
    exact_mod_cast Row.blend_one _ _

/-! ## The result -/

theorem rows3_at (P : FVec Ideal S1024x200x128 .f32) (n : Fin 16) (a : Fin 64) (b : Fin 1024) (h : b.val = n.val * 64 + a.val)
    (l : Fin 200) (c : Fin 128) :
    rows3 n P (ix3 (n0 := 64) (n1 := 200) (n2 := 128) a l c) = P (ix3 (n0 := 1024) (n1 := 200) (n2 := 128) b l c) :=
  congrArg (fun i : Fin 1024 => P (ix3 (n0 := 1024) (n1 := 200) (n2 := 128) i l c))
    (Fin.ext h.symm : (⟨n.val * 64 + a.val, by omega⟩ : Fin 1024) = b)
theorem rows2_at (P : IVec S1024x200 32) (n : Fin 16) (a : Fin 64) (b : Fin 1024) (h : b.val = n.val * 64 + a.val) (l : Fin 200) :
    rows2 n P (ix2 (n0 := 64) (n1 := 200) a l) = P (ix2 (n0 := 1024) (n1 := 200) b l) :=
  congrArg (fun i : Fin 1024 => P (ix2 (n0 := 1024) (n1 := 200) i l))
    (Fin.ext h.symm : (⟨n.val * 64 + a.val, by omega⟩ : Fin 1024) = b)

theorem kRow_at (P : FVec Ideal S1024x200x128 .f32) (x seg : IVec S1024x200 32) (pos : FVec Ideal S5000x64 .f32) (se : FVec Ideal S2x64 .f32)
    (b : Fin 1024) (l : Fin 200) (k : Fin 64) :
    kRow (rows3 ⟨b.val / 64, by omega⟩ P) (rows2 ⟨b.val / 64, by omega⟩ (andi x ones)) (rows2 ⟨b.val / 64, by omega⟩ seg)
      (extractStridedSlice S200x64 ![0, 0] pos slices_S5000x64_S200x64_0_0) se ⟨b.val % 64, by omega⟩ l k
      = kSum (P (ix3 (n0 := 1024) (n1 := 200) (n2 := 128) b l ⟨k.val, by omega⟩))
          (P (ix3 (n0 := 1024) (n1 := 200) (n2 := 128) b l ⟨64 + k.val, by omega⟩))
          (pos (ix2 (n0 := 5000) (n1 := 64) ⟨l.val, by omega⟩ k)) (se (ix2 (n0 := 2) (n1 := 64) 0 k)) (se (ix2 (n0 := 2) (n1 := 64) 1 k))
          (IntOp.andi (x (ix2 (n0 := 1024) (n1 := 200) b l)) 1#32) (seg (ix2 (n0 := 1024) (n1 := 200) b l)) := by
  have hb : b.val = b.val / 64 * 64 + b.val % 64 := by omega
  have ep : extractStridedSlice S200x64 ![0, 0] pos slices_S5000x64_S200x64_0_0 (ix2 (n0 := 200) (n1 := 64) l k)
      = pos (ix2 (n0 := 5000) (n1 := 64) ⟨l.val, by omega⟩ k) := by pointwise!
  unfold kRow
  have r3 := rows3_at P ⟨b.val / 64, by omega⟩ ⟨b.val % 64, by omega⟩ b hb l
  have r2 := fun Q => rows2_at Q ⟨b.val / 64, by omega⟩ ⟨b.val % 64, by omega⟩ b hb l
  rw [ep, r3, r3, r2, r2]
  rfl

/-- The segments are numbered 0 and 1, and both tables of the choices hold numbers. -/
structure NumOK (d : Dev nD) : Prop where
  seg : ∀ j, ((at0 m d main_arg1 : IVec S1024x200 32) j).toNat < 2
  tok : ∀ j, ∃ r : ℝ, (at0 m d main_arg2 : FVec Ideal S1000000x64 .f32) j = (r : EReal)
  se : ∀ j, ∃ r : ℝ, (at0 m d main_arg4 : FVec Ideal S2x64 .f32) j = (r : EReal)

/-- The row of sums, the choices made. -/
theorem sum_at (h : PreOK m) (d : Dev nD) (hd : NumOK m d) (b : Fin 1024) (l : Fin 200) (k : Fin 64) :
    kRow (rows3 ⟨b.val / 64, by omega⟩ (shapeCast S1024x200x128 (gO (F := Ideal) (idxA m d) (tbA m d)) shapeCasts_S204800x128_S1024x200x128))
      (rows2 ⟨b.val / 64, by omega⟩ (andi (at0 m d main_arg0) ones)) (rows2 ⟨b.val / 64, by omega⟩ (at0 m d main_arg1))
      (extractStridedSlice S200x64 ![0, 0] (at0 m d main_arg3) slices_S5000x64_S200x64_0_0) (at0 m d main_arg4)
      ⟨b.val % 64, by omega⟩ l k
      = embRow (at0 m d main_arg0) (at0 m d main_arg1) (at0 m d main_arg2) (at0 m d main_arg3) (at0 m d main_arg4) b l k := by
  have hw := h d (ix2 (n0 := 1024) (n1 := 200) b l)
  have hs := hd.seg (ix2 (n0 := 1024) (n1 := 200) b l)
  rw [kRow_at, packed_at m h d b l ⟨k.val, by omega⟩ (by show 2 * _ + k.val / 64 < _; omega),
    packed_at m h d b l ⟨64 + k.val, by omega⟩ (by show 2 * _ + (64 + k.val) / 64 < _; omega)]
  unfold kSum embRow
  rw [choose_half _ _ (hd.tok _), choose_seg _ _ (hd.se _) _ hs]
  congr 1
  · congr 1
    have hn := near_val (n := 1000000) (by omega) (by norm_num) hw
    split
    · rename_i e
      refine congrArg (at0 m d main_arg2 : FVec Ideal S1000000x64 .f32) (congrArg₂ (ix2 (n0 := 1000000) (n1 := 64)) (Fin.ext ?_) (Fin.ext ?_))
      · rw [hn]; show 2 * _ + k.val / 64 = _; omega
      · show k.val % 64 = k.val; omega
    · rename_i e
      refine congrArg (at0 m d main_arg2 : FVec Ideal S1000000x64 .f32) (congrArg₂ (ix2 (n0 := 1000000) (n1 := 64)) (Fin.ext ?_) (Fin.ext ?_))
      · rw [hn]; show 2 * _ + (64 + k.val) / 64 = _; omega
      · show (64 + k.val) % 64 = k.val; omega
  · have hn := near_val (n := 2) (by omega) (by norm_num) hs
    split
    · rename_i e
      exact congrArg (at0 m d main_arg4 : FVec Ideal S2x64 .f32) (congrArg₂ (ix2 (n0 := 2) (n1 := 64)) (Fin.ext (by rw [hn, e]; rfl)) rfl)
    · rename_i e
      exact congrArg (at0 m d main_arg4 : FVec Ideal S2x64 .f32) (congrArg₂ (ix2 (n0 := 2) (n1 := 64)) (Fin.ext (by rw [hn]; show 1 = _; omega)) rfl)

theorem cast_scale {α : Type} (z : S64.Idx → α) (k : Fin 64) :
    shapeCast S1x64 z shapeCasts_S64_S1x64 (ix2 (n0 := 1) (n1 := 64) 0 k) = z (ix1 (n0 := 64) k) := by pointwise!

theorem ker_at (h : PreOK m) (d : Dev nD) (hd : NumOK m d) (b : Fin 1024) (l : Fin 200) (k : Fin 64) :
    (V4 m d main_v11 : FVec Ideal S1024x200x64 .f32) (ix3 (n0 := 1024) (n1 := 200) (n2 := 64) b l k)
      = Row.norm (embRow (at0 m d main_arg0) (at0 m d main_arg1) (at0 m d main_arg2) (at0 m d main_arg3) (at0 m d main_arg4) b l) k
          * (at0 m d main_arg5 : FVec Ideal S64 .f32) (ix1 (n0 := 64) k) + (at0 m d main_arg6 : FVec Ideal S64 .f32) (ix1 (n0 := 64) k) := by
  have hb : b.val = b.val / 64 * 64 + b.val % 64 := by omega
  rw [V4_v11, lnOut_apply _ _ _ _ _ _ _ ⟨b.val / 64, by omega⟩ (ix3 (n0 := 64) (n1 := 200) (n2 := 64) ⟨b.val % 64, by omega⟩ l k) _
    hb rfl rfl, lnBlk_apply, cast_scale, cast_scale, funext (sum_at m h d hd b l)]

end Cert.Proof.Gather

end
-- ==== Proof.Take.lean ====
/-
  The reference's three table reads at an element: a word that names a row of the table gives that row.
-/
module

public import proofs.«01_k».proof.Proof.KerRow
public import proofs.«01_k».proof.Proof.Gen.ReferenceIdeal.Run
public import Idealize.ShloMosaic.Lib.ReduceAll

@[expose] public section

noncomputable section

namespace Cert.Proof.Ref

open Cert.ReferenceIdeal Cert.ReferenceIdeal.Gen
open Idealize.ShloMosaic
open Cert.Proof.Gather (near near_val)

/-! ## The gathers -/

theorem gather_tok (z : FVec Ideal S1000000x64 .f32) (w : IVec S1024x200x1 32) (b : Fin 1024) (l : Fin 200) (k : Fin 64) :
    Host.gather gather_S1000000x64_S1024x200x1_S1024x200x64_2_0_n_n_0_2_164 z w (ix3 (n0 := 1024) (n1 := 200) (n2 := 64) b l k)
      = z (ix2 (n0 := 1000000) (n1 := 64) (near 1000000 (by omega) (w (ix3 (n0 := 1024) (n1 := 200) (n2 := 1) b l 0))) k) := by
  refine congrArg z (funext fun a => ?_)
  match a with
  | ⟨0, _⟩ =>
    refine Fin.ext ?_
    show min (w _).toInt.toNat (1000000 - 1) + 0 + 0 = min (w _).toInt.toNat (1000000 - 1)
    have e : GatherDims.siIdx gather_S1000000x64_S1024x200x1_S1024x200x64_2_0_n_n_0_2_164 (ix3 (n0 := 1024) (n1 := 200) (n2 := 64) b l k)
        ⟨0, by decide⟩ = ix3 (n0 := 1024) (n1 := 200) (n2 := 1) b l 0 := by
      funext c
      match c with
      | ⟨0, _⟩ => rfl
      | ⟨1, _⟩ => rfl
      | ⟨2, _⟩ => rfl
    exact congrArg (fun i => min (w i).toInt.toNat (1000000 - 1)) e
  | ⟨1, _⟩ => exact Fin.ext (Nat.zero_add k.val)

theorem gather_seg (z : FVec Ideal S2x64 .f32) (w : IVec S1024x200x1 32) (b : Fin 1024) (l : Fin 200) (k : Fin 64) :
    Host.gather gather_S2x64_S1024x200x1_S1024x200x64_2_0_n_n_0_2_164 z w (ix3 (n0 := 1024) (n1 := 200) (n2 := 64) b l k)
      = z (ix2 (n0 := 2) (n1 := 64) (near 2 (by omega) (w (ix3 (n0 := 1024) (n1 := 200) (n2 := 1) b l 0))) k) := by
  refine congrArg z (funext fun a => ?_)
  match a with
  | ⟨0, _⟩ =>
    refine Fin.ext ?_
    show min (w _).toInt.toNat (2 - 1) + 0 + 0 = min (w _).toInt.toNat (2 - 1)
    have e : GatherDims.siIdx gather_S2x64_S1024x200x1_S1024x200x64_2_0_n_n_0_2_164 (ix3 (n0 := 1024) (n1 := 200) (n2 := 64) b l k)
        ⟨0, by decide⟩ = ix3 (n0 := 1024) (n1 := 200) (n2 := 1) b l 0 := by
      funext c
      match c with
      | ⟨0, _⟩ => rfl
      | ⟨1, _⟩ => rfl
      | ⟨2, _⟩ => rfl
    exact congrArg (fun i => min (w i).toInt.toNat (2 - 1)) e
  | ⟨1, _⟩ => exact Fin.ext (Nat.zero_add k.val)

theorem gather_pos (z : FVec Ideal S5000x64 .f32) (w : IVec S200x1 32) (l : Fin 200) (k : Fin 64) :
    Host.gather gather_S5000x64_S200x1_S200x64_1_0_n_n_0_1_164 z w (ix2 (n0 := 200) (n1 := 64) l k)
      = z (ix2 (n0 := 5000) (n1 := 64) (near 5000 (by omega) (w (ix2 (n0 := 200) (n1 := 1) l 0))) k) := by
  refine congrArg z (funext fun a => ?_)
  match a with
  | ⟨0, _⟩ =>
    refine Fin.ext ?_
    show min (w _).toInt.toNat (5000 - 1) + 0 + 0 = min (w _).toInt.toNat (5000 - 1)
    have e : GatherDims.siIdx gather_S5000x64_S200x1_S200x64_1_0_n_n_0_1_164 (ix2 (n0 := 200) (n1 := 64) l k)
        ⟨0, by decide⟩ = ix2 (n0 := 200) (n1 := 1) l 0 := by
      funext c
      match c with
      | ⟨0, _⟩ => rfl
      | ⟨1, _⟩ => rfl
    exact congrArg (fun i => min (w i).toInt.toNat (5000 - 1)) e
  | ⟨1, _⟩ => exact Fin.ext (Nat.zero_add k.val)

/-! ## The words and the tests on them -/

/-- The words, a negative one counted from the table's end. -/
def wrap3 (n : BitVec 32) (x : IVec S1024x200 32) : IVec S1024x200x1 32 :=
  broadcastInDim S1024x200x1 ![0, 1] bcast_S1024x200_S1024x200x1_0_1 (select (cmpi .slt x (broadcastInDim S1024x200 ![] bcast_S_S1024x200 (constantI S_ 32 0#32))) (addi x (broadcastInDim S1024x200 ![] bcast_S_S1024x200 (constantI S_ 32 n))) x)
def wrap1 (n : BitVec 32) (x : IVec S200 32) : IVec S200x1 32 :=
  broadcastInDim S200x1 ![0] bcast_S200_S200x1_0 (select (cmpi .slt x (broadcastInDim S200 ![] bcast_S_S200 (constantI S_ 32 0#32))) (addi x (broadcastInDim S200 ![] bcast_S_S200 (constantI S_ 32 n))) x)

/-- Which of them name a row. -/
def inRange3 (last : BitVec 32) (w : IVec S1024x200x1 32) : IVec S1024x200 1 :=
  Host.reduce IntOp.andi (andi (cmpi .sge w (broadcastInDim S1024x200x1 ![] bcast_S_S1024x200x1 (constantI S_ 32 0#32))) (cmpi .sle w (broadcastInDim S1024x200x1 ![0, 1, 2] bcast_S1x1x1_S1024x200x1_0_1_2 (broadcastInDim S1x1x1 ![2] bcast_S1_S1x1x1_2 (constantI S1 32 last))))) (constantI S_ 1 1#1) reducesTo_S1024x200x1_S1024x200_d2 h_S_
def inRange1 (last : BitVec 32) (w : IVec S200x1 32) : IVec S200 1 :=
  Host.reduce IntOp.andi (andi (cmpi .sge w (broadcastInDim S200x1 ![] bcast_S_S200x1 (constantI S_ 32 0#32))) (cmpi .sle w (broadcastInDim S200x1 ![0, 1] bcast_S1x1_S200x1_0_1 (broadcastInDim S1x1 ![1] bcast_S1_S1x1_1 (constantI S1 32 last))))) (constantI S_ 1 1#1) reducesTo_S200x1_S200_d1 h_S_

/-- A word below two to the thirty-first is kept; -/
theorem wrap_word (n w : BitVec 32) (h : w.toNat < 2 ^ 31) :
    Scalar.select (IntOp.cmpi .slt w 0#32) (IntOp.addi w n) w = w := by
  have e : IntOp.cmpi .slt w 0#32 = 0#1 := by
    have hf : w.slt 0#32 = false := by
      simp only [BitVec.slt_eq_decide, decide_eq_false_iff_not, BitVec.toInt_eq_toNat_cond, BitVec.toNat_ofNat, Nat.reducePow, Nat.reduceMod]
      omega
    show BitVec.ofBool (w.slt 0#32) = 0#1
    rw [hf]; rfl
  rw [e]
  exact if_neg (by decide)

/-- one below the table's length passes both tests. -/
theorem test_word (last w : BitVec 32) (hl : last.toNat < 2 ^ 31) (h : w.toNat ≤ last.toNat) :
    IntOp.andi (IntOp.cmpi .sge w 0#32) (IntOp.cmpi .sle w last) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

theorem wrap3_at (n : BitVec 32) (x : IVec S1024x200 32) (b : Fin 1024) (l : Fin 200) (c : Fin 1)
    (h : (x (ix2 (n0 := 1024) (n1 := 200) b l)).toNat < 2 ^ 31) :
    wrap3 n x (ix3 (n0 := 1024) (n1 := 200) (n2 := 1) b l c) = x (ix2 (n0 := 1024) (n1 := 200) b l) := by
  unfold wrap3
  pointwise
  exact wrap_word _ _ h

theorem wrap1_at (n : BitVec 32) (x : IVec S200 32) (l : Fin 200) (c : Fin 1) (h : (x (ix1 (n0 := 200) l)).toNat < 2 ^ 31) :
    wrap1 n x (ix2 (n0 := 200) (n1 := 1) l c) = x (ix1 (n0 := 200) l) := by
  unfold wrap1
  pointwise
  exact wrap_word _ _ h

theorem inRange3_one (last : BitVec 32) (w : IVec S1024x200x1 32) (hl : last.toNat < 2 ^ 31) (h : ∀ j, (w j).toNat ≤ last.toNat)
    (j : S1024x200.Idx) : inRange3 last w j = 1#1 :=
  Host.reduce_andi_one _ _ _ _ _ rfl fun i => test_word last (w i) hl (h i)
theorem inRange1_one (last : BitVec 32) (w : IVec S200x1 32) (hl : last.toNat < 2 ^ 31) (h : ∀ j, (w j).toNat ≤ last.toNat)
    (j : S200.Idx) : inRange1 last w j = 1#1 :=
  Host.reduce_andi_one _ _ _ _ _ rfl fun i => test_word last (w i) hl (h i)

theorem idx3_eq {n0 n1 n2 : ℕ} (j : (⟨3, ![n0, n1, n2]⟩ : Shape).Idx) : ∃ (a : Fin n0) (b : Fin n1) (c : Fin n2), j = ix3 a b c := by
  refine ⟨j 0, j 1, j 2, funext fun a => ?_⟩
  match a with
  | ⟨0, _⟩ => rfl
  | ⟨1, _⟩ => rfl
  | ⟨2, _⟩ => rfl
theorem idx2_eq {n0 n1 : ℕ} (j : (⟨2, ![n0, n1]⟩ : Shape).Idx) : ∃ (a : Fin n0) (b : Fin n1), j = ix2 a b := by
  refine ⟨j 0, j 1, funext fun a => ?_⟩
  match a with
  | ⟨0, _⟩ => rfl
  | ⟨1, _⟩ => rfl

theorem select_one {α : Type} (x y : α) : Scalar.select 1#1 x y = x := if_pos rfl

/-! ## The reads -/

/-- The token rows, -/
def takeTok (x : IVec S1024x200 32) (z : FVec Ideal S1000000x64 .f32) : FVec Ideal S1024x200x64 .f32 :=
  select (broadcastInDim S1024x200x64 ![0, 1] bcast_S1024x200_S1024x200x64_0_1 (inRange3 999999#32 (wrap3 1000000#32 x)))
    (Host.gather gather_S1000000x64_S1024x200x1_S1024x200x64_2_0_n_n_0_2_164 z (wrap3 1000000#32 x))
    (broadcastInDim S1024x200x64 ![] bcast_S_S1024x200x64 (constant S_ .f32 0x7FC00000#32))
/-- the segment rows, -/
def takeSeg (x : IVec S1024x200 32) (z : FVec Ideal S2x64 .f32) : FVec Ideal S1024x200x64 .f32 :=
  select (broadcastInDim S1024x200x64 ![0, 1] bcast_S1024x200_S1024x200x64_0_1 (inRange3 1#32 (wrap3 2#32 x)))
    (Host.gather gather_S2x64_S1024x200x1_S1024x200x64_2_0_n_n_0_2_164 z (wrap3 2#32 x))
    (broadcastInDim S1024x200x64 ![] bcast_S_S1024x200x64 (constant S_ .f32 0x7FC00000#32))
/-- and the position rows. -/
def takePos (z : FVec Ideal S5000x64 .f32) : FVec Ideal S200x64 .f32 :=
  select (broadcastInDim S200x64 ![0] bcast_S200_S200x64_0 (inRange1 4999#32 (wrap1 5000#32 (iotaInDim S200 32 0))))
    (Host.gather gather_S5000x64_S200x1_S200x64_1_0_n_n_0_1_164 z (wrap1 5000#32 (iotaInDim S200 32 0)))
    (broadcastInDim S200x64 ![] bcast_S_S200x64 (constant S_ .f32 0x7FC00000#32))

theorem takeTok_at (x : IVec S1024x200 32) (z : FVec Ideal S1000000x64 .f32) (h : ∀ j, (x j).toNat < 1000000)
    (b : Fin 1024) (l : Fin 200) (k : Fin 64) :
    takeTok x z (ix3 (n0 := 1024) (n1 := 200) (n2 := 64) b l k)
      = z (ix2 (n0 := 1000000) (n1 := 64) (near 1000000 (by omega) (x (ix2 (n0 := 1024) (n1 := 200) b l))) k) := by
  have hw : ∀ b l c, wrap3 1000000#32 x (ix3 (n0 := 1024) (n1 := 200) (n2 := 1) b l c) = x (ix2 (n0 := 1024) (n1 := 200) b l) :=
    fun b l c => wrap3_at _ x b l c ((h _).trans (by norm_num))
  have hr : ∀ j, (wrap3 1000000#32 x j).toNat ≤ (999999#32).toNat := fun j => by
    obtain ⟨b, l, c, rfl⟩ := idx3_eq j
    rw [hw]; exact Nat.le_of_lt_succ (h _)
  unfold takeTok
  pointwise
  rw [inRange3_one 999999#32 _ (by decide) hr, select_one, gather_tok, hw]

theorem takeSeg_at (x : IVec S1024x200 32) (z : FVec Ideal S2x64 .f32) (h : ∀ j, (x j).toNat < 2)
    (b : Fin 1024) (l : Fin 200) (k : Fin 64) :
    takeSeg x z (ix3 (n0 := 1024) (n1 := 200) (n2 := 64) b l k)
      = z (ix2 (n0 := 2) (n1 := 64) (near 2 (by omega) (x (ix2 (n0 := 1024) (n1 := 200) b l))) k) := by
  have hw : ∀ b l c, wrap3 2#32 x (ix3 (n0 := 1024) (n1 := 200) (n2 := 1) b l c) = x (ix2 (n0 := 1024) (n1 := 200) b l) :=
    fun b l c => wrap3_at _ x b l c ((h _).trans (by norm_num))
  have hr : ∀ j, (wrap3 2#32 x j).toNat ≤ (1#32).toNat := fun j => by
    obtain ⟨b, l, c, rfl⟩ := idx3_eq j
    rw [hw]; exact Nat.le_of_lt_succ (h _)
  unfold takeSeg
  pointwise
  rw [inRange3_one 1#32 _ (by decide) hr, select_one, gather_seg, hw]

theorem takePos_at (z : FVec Ideal S5000x64 .f32) (l : Fin 200) (k : Fin 64) :
    takePos z (ix2 (n0 := 200) (n1 := 64) l k) = z (ix2 (n0 := 5000) (n1 := 64) ⟨l.val, by omega⟩ k) := by
  have hi : ∀ l : Fin 200, ((iotaInDim S200 32 0 : IVec S200 32) (ix1 (n0 := 200) l)).toNat = l.val := fun l => by
    show (BitVec.ofNat 32 l.val).toNat = _
    rw [BitVec.toNat_ofNat, Nat.mod_eq_of_lt (by omega)]
  have hw : ∀ l c, wrap1 5000#32 (iotaInDim S200 32 0) (ix2 (n0 := 200) (n1 := 1) l c) = (iotaInDim S200 32 0 : IVec S200 32) (ix1 (n0 := 200) l) :=
    fun l c => wrap1_at _ _ l c (by rw [hi]; omega)
  have hr : ∀ j, (wrap1 5000#32 (iotaInDim S200 32 0) j).toNat ≤ (4999#32).toNat := fun j => by
    obtain ⟨l, c, rfl⟩ := idx2_eq j
    rw [hw, hi]; show l.val ≤ 4999; omega
  unfold takePos
  pointwise
  rw [inRange1_one 4999#32 _ (by decide) hr, select_one, gather_pos, hw]
  refine congrArg z (congrArg₂ (ix2 (n0 := 5000) (n1 := 64)) (Fin.ext ?_) rfl)
  rw [near_val (by omega) (by norm_num) (by rw [hi]; omega), hi]

/-- The three rows added. -/
def emb (x seg : IVec S1024x200 32) (tok : FVec Ideal S1000000x64 .f32) (pos : FVec Ideal S5000x64 .f32) (se : FVec Ideal S2x64 .f32) :
    FVec Ideal S1024x200x64 .f32 :=
  addf (addf (takeTok x tok) (broadcastInDim S1024x200x64 ![0, 1, 2] bcast_S1x200x64_S1024x200x64_0_1_2
    (broadcastInDim S1x200x64 ![1, 2] bcast_S200x64_S1x200x64_1_2 (takePos pos)))) (takeSeg seg se)

theorem emb_at (x seg : IVec S1024x200 32) (tok : FVec Ideal S1000000x64 .f32) (pos : FVec Ideal S5000x64 .f32) (se : FVec Ideal S2x64 .f32)
    (hx : ∀ j, (x j).toNat < 1000000) (hs : ∀ j, (seg j).toNat < 2) (b : Fin 1024) (l : Fin 200) (k : Fin 64) :
    emb x seg tok pos se (ix3 (n0 := 1024) (n1 := 200) (n2 := 64) b l k) = Cert.Proof.Gather.embRow x seg tok pos se b l k := by
  unfold emb
  pointwise
  rw [takeTok_at x tok hx, takeSeg_at seg se hs, takePos_at]
  rfl

end Cert.Proof.Ref

end
-- ==== Proof.RefVal.lean ====
/-
  The reference's result at an element: the sums' row, normalised, scaled and shifted.
-/
module

public import proofs.«01_k».proof.Proof.Take

@[expose] public section

noncomputable section

namespace Cert.Proof.Ref

open Cert.ReferenceIdeal Cert.ReferenceIdeal.Gen
open Idealize.ShloMosaic
open Idealize.ShloMosaic.TcCoe

variable (e : FVec Ideal S1024x200x64 .f32) (g b : FVec Ideal S64 .f32)

/-- The rows' means, -/
def means : FVec Ideal S1024x200x1 .f32 :=
  Host.divf (broadcastInDim S1024x200x1 ![0, 1] bcast_S1024x200_S1024x200x1_0_1 (Host.reduceAdd e (constant S_ .f32 0x00000000#32) reducesTo_S1024x200x64_S1024x200_d2 h_S_)) (broadcastInDim S1024x200x1 ![] bcast_S_S1024x200x1 (constant S_ .f32 0x42800000#32))

/-- the entries' distances from them, -/
def dist : FVec Ideal S1024x200x64 .f32 :=
  subf e (broadcastInDim S1024x200x64 ![0, 1, 2] bcast_S1024x200x1_S1024x200x64_0_1_2 (means e))

/-- how many entries a variance is taken over, -/
def count : FVec Ideal S_ .f32 := subf (constant S_ .f32 0x42800000#32) (sitofp .f32 (constantI S_ 32 0#32))

/-- the rows' variances, -/
def vars : FVec Ideal S1024x200x1 .f32 :=
  select (broadcastInDim S1024x200x1 ![] bcast_S_S1024x200x1 (cmpf .ogt count (constant S_ .f32 0x00000000#32)))
    (Host.divf (broadcastInDim S1024x200x1 ![0, 1] bcast_S1024x200_S1024x200x1_0_1 (Host.reduceAdd (mulf (dist e) (dist e)) (constant S_ .f32 0x00000000#32) reducesTo_S1024x200x64_S1024x200_d2 h_S_))
      (broadcastInDim S1024x200x1 ![] bcast_S_S1024x200x1 count))
    (broadcastInDim S1024x200x1 ![] bcast_S_S1024x200x1 (id (constant S_ .f32 0x7FC00000#32)))

/-- and the result. -/
def scaled : FVec Ideal S1024x200x64 .f32 :=
  addf (mulf (Host.divf (dist e) (broadcastInDim S1024x200x64 ![0, 1, 2] bcast_S1024x200x1_S1024x200x64_0_1_2
      (Host.sqrt (addf (vars e) (broadcastInDim S1024x200x1 ![] bcast_S_S1024x200x1 (constant S_ .f32 0x3727C5AC#32))))))
    (broadcastInDim S1024x200x64 ![0, 1, 2] bcast_S1x1x64_S1024x200x64_0_1_2 (broadcastInDim S1x1x64 ![2] bcast_S64_S1x1x64_2 g)))
    (broadcastInDim S1024x200x64 ![0, 1, 2] bcast_S1x1x64_S1024x200x64_0_1_2 (broadcastInDim S1x1x64 ![2] bcast_S64_S1x1x64_2 b))

theorem res_eq (m : (ℓ : Loc nD τ sig) → Buf (Elt Ideal) ℓ) (c : Dev nD) :
    Cert.ReferenceIdeal.Value.res_main_v25 m c = scaled (emb (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := by
  unfold Cert.ReferenceIdeal.Value.res_main_v25
  rfl

/-- The row of `e` at `(i, l)`. -/
def rowAt (i : Fin 1024) (l : Fin 200) (k : Fin 64) : EReal := e (ix3 (n0 := 1024) (n1 := 200) (n2 := 64) i l k)

set_option maxRecDepth 16384

theorem means_at (i : Fin 1024) (l : Fin 200) (c : Fin 1) :
    means e (ix3 (n0 := 1024) (n1 := 200) (n2 := 1) i l c) = Row.mean (rowAt e i l) := by
  unfold means
  pointwise
  rfl

theorem dist_at (i : Fin 1024) (l : Fin 200) (k : Fin 64) :
    dist e (ix3 (n0 := 1024) (n1 := 200) (n2 := 64) i l k) = rowAt e i l k - Row.mean (rowAt e i l) := by
  unfold dist
  pointwise
  rw [means_at]
  rfl

theorem count_at (j : S_.Idx) : count j = Ideal.ofBits .f32 0x42800000#32 := by
  unfold count
  pointwise
  show Ideal.ofBits .f32 0x42800000#32 - (((0#32 : BitVec 32).toInt : ℝ) : EReal) = _
  rw [BitVec.toInt_zero]
  simp

theorem vars_at (i : Fin 1024) (l : Fin 200) (c : Fin 1) :
    vars e (ix3 (n0 := 1024) (n1 := 200) (n2 := 1) i l c) = Row.var (rowAt e i l) := by
  unfold vars
  pointwise
  rw [count_at, if_pos (by rw [Row.c64_eq]; exact_mod_cast (by norm_num : (0 : ℝ) < 64))]
  simp only [dist_at]
  rfl

theorem scaled_at (i : Fin 1024) (l : Fin 200) (k : Fin 64) :
    scaled e g b (ix3 (n0 := 1024) (n1 := 200) (n2 := 64) i l k)
      = Row.norm (rowAt e i l) k * g (ix1 (n0 := 64) k) + b (ix1 (n0 := 64) k) := by
  unfold scaled
  pointwise
  rw [dist_at, vars_at]
  exact congrArg (fun z => z * g (ix1 (n0 := 64) k) + b (ix1 (n0 := 64) k)) (Row.norm_eq_div _ _)

end Cert.Proof.Ref

end
-- ==== Proof.Alg.lean ====
/-
  The two programs' results are one, from equal arguments: both are, at every element, the normalised row of the sums.
-/
module

public import proofs.«01_k».proof.Proof.RefVal

@[expose] public section

noncomputable section

namespace Cert.Proof

open Idealize.ShloMosaic
open Idealize.ShloMosaic.TcCoe
open Cert.Proof.Gather (PreOK NumOK V4 at0 ker_at embRow)

theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : PreOK m) (hd : NumOK m c)
    (e0 : m' ((c.tc : Thread Cert.ReferenceIdeal.nD Cert.ReferenceIdeal.τ).loc Cert.ReferenceIdeal.main_arg0) = at0 m c Cert.KernelIdeal.main_arg0)
    (e1 : m' ((c.tc : Thread Cert.ReferenceIdeal.nD Cert.ReferenceIdeal.τ).loc Cert.ReferenceIdeal.main_arg1) = at0 m c Cert.KernelIdeal.main_arg1)
    (e2 : m' ((c.tc : Thread Cert.ReferenceIdeal.nD Cert.ReferenceIdeal.τ).loc Cert.ReferenceIdeal.main_arg2) = at0 m c Cert.KernelIdeal.main_arg2)
    (e3 : m' ((c.tc : Thread Cert.ReferenceIdeal.nD Cert.ReferenceIdeal.τ).loc Cert.ReferenceIdeal.main_arg3) = at0 m c Cert.KernelIdeal.main_arg3)
    (e4 : m' ((c.tc : Thread Cert.ReferenceIdeal.nD Cert.ReferenceIdeal.τ).loc Cert.ReferenceIdeal.main_arg4) = at0 m c Cert.KernelIdeal.main_arg4)
    (e5 : m' ((c.tc : Thread Cert.ReferenceIdeal.nD Cert.ReferenceIdeal.τ).loc Cert.ReferenceIdeal.main_arg5) = at0 m c Cert.KernelIdeal.main_arg5)
    (e6 : m' ((c.tc : Thread Cert.ReferenceIdeal.nD Cert.ReferenceIdeal.τ).loc Cert.ReferenceIdeal.main_arg6) = at0 m c Cert.KernelIdeal.main_arg6) :
    Cert.ReferenceIdeal.Value.res_main_v25 m' c = V4 m c Cert.KernelIdeal.main_v11 := by
  refine (Ref.res_eq m' c).trans ?_
  rw [e0, e1, e2, e3, e4, e5, e6]
  funext j
  obtain ⟨b, l, k, rfl⟩ := Ref.idx3_eq (n0 := 1024) (n1 := 200) (n2 := 64) j
  refine (Ref.scaled_at _ _ _ b l k).trans (Eq.trans ?_ (ker_at m h c hd b l k).symm)
  have er : Ref.rowAt (Ref.emb (at0 m c Cert.KernelIdeal.main_arg0) (at0 m c Cert.KernelIdeal.main_arg1) (at0 m c Cert.KernelIdeal.main_arg2)
      (at0 m c Cert.KernelIdeal.main_arg3) (at0 m c Cert.KernelIdeal.main_arg4)) b l
      = embRow (at0 m c Cert.KernelIdeal.main_arg0) (at0 m c Cert.KernelIdeal.main_arg1) (at0 m c Cert.KernelIdeal.main_arg2)
          (at0 m c Cert.KernelIdeal.main_arg3) (at0 m c Cert.KernelIdeal.main_arg4) b l :=
    funext fun k => Ref.emb_at _ _ _ _ _ (h c) hd.seg b l k
  rw [er]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Values
public import proofs.«01_k».proof.Proof.Same
public import proofs.«01_k».proof.Proof.Alg
public import proofs.«01_k».proof.Proof.Gen.Pre_tokens_in_vocab
public import proofs.«01_k».proof.Proof.Gen.Pre_inputs_in_range
public import Idealize.ShloMosaic.Adequacy
public import Idealize.ShloMosaic.Init

@[expose] public section

noncomputable section

namespace Cert.Proof

open Idealize.ShloMosaic Idealize.SL.Sem

/-! ## The kernel's frames: one run, read twice -/

open Cert.Proof.Gather (run_frame PreOK word_range) in
theorem ok_bits (m : (ℓ : Loc Cert.Kernel.nD Cert.Kernel.τ Cert.Kernel.sig) → Buf (Elt Bits) ℓ) (h : Cert.Pre_Kernel m) : PreOK (F := Bits) m := by
  intro d j
  have e := congrFun (h d) j
  simp only [Pre_tokens_in_vocab.fn, andi, cmpi, broadcastInDim, constantI] at e
  exact word_range _ e

open Cert.Proof.Gather (run_frame PreOK word_range) in
theorem ok_ideal (m : (ℓ : Loc Cert.KernelIdeal.nD Cert.KernelIdeal.τ Cert.KernelIdeal.sig) → Buf (Elt Ideal) ℓ) (h : Cert.Pre_KernelIdeal m) :
    PreOK (F := Ideal) m := by
  intro d j
  have e := congrFun (h d) j
  simp only [Pre_tokens_in_vocab.fn, andi, cmpi, broadcastInDim, constantI] at e
  exact word_range _ e

open Cert.Proof.Gather (run_frame PreOK word_range) in
theorem ok_ideal_all (m : (ℓ : Loc Cert.KernelIdeal.nD Cert.KernelIdeal.τ Cert.KernelIdeal.sig) → Buf (Elt Ideal) ℓ)
    (h : Cert.Pre_KernelIdeal_inputs_in_range m) : PreOK (F := Ideal) m := by
  intro d j
  have e := congrFun (h d).1 j
  simp only [Pre_inputs_in_range.fn, andi, cmpi, broadcastInDim, constantI] at e
  exact word_range _ e

/-- The printed program runs, keeps its arguments and ends with every counter at zero: the ideal form's run read at words,
    the two programs being one. -/
theorem frame_kernel : Cert.quiescent_Kernel := fun m ρ h => by
  rw [defs_same]
  exact (θ_run Cert.KernelIdeal.defs _ _).mono (fun _ h => ⟨fun c => (h.1 c).2, h.2⟩)
    (Cert.Proof.Gather.run_frame (F := Bits) m ρ (ok_bits m h))

/-- The ideal form's frame, from the same run. -/
theorem frame_ideal : Cert.quiescent_KernelIdeal := fun m ρ h =>
  (θ_run Cert.KernelIdeal.defs _ _).mono (fun _ h => ⟨fun c => (h.1 c).2, h.2⟩) (Cert.Proof.Gather.run_frame (F := Ideal) m ρ (ok_ideal m h))

/-- The same under the value claim's precondition. -/
theorem frame_ideal_all : Cert.quiescent_KernelIdeal_pre_inputs_in_range := fun m ρ h =>
  (θ_run Cert.KernelIdeal.defs _ _).mono (fun _ h => ⟨fun c => (h.1 c).2, h.2⟩) (Cert.Proof.Gather.run_frame (F := Ideal) m ρ (ok_ideal_all m h))

/-- The reference runs and keeps its arguments; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the value claim's precondition. -/
theorem frame_reference_all : Cert.quiescent_ReferenceIdeal_pre_inputs_in_range := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The value claim -/

/-- A word that passes the segment's test is below two. -/
theorem seg_word (v : BitVec 32) (e : IntOp.andi (IntOp.cmpi .sge v 0#32) (IntOp.cmpi .slt v 2#32) = 1#1) : v.toNat < 2 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- What the value claim's precondition says of the segments and the two tables. -/
theorem num_ok (m : (ℓ : Loc Cert.KernelIdeal.nD Cert.KernelIdeal.τ Cert.KernelIdeal.sig) → Buf (Elt Ideal) ℓ)
    (h : Cert.Pre_KernelIdeal_inputs_in_range m) (d : Dev Cert.KernelIdeal.nD) : Cert.Proof.Gather.NumOK m d where
  seg j := by
    have e := congrFun (h d).2.1 j
    simp only [Pre_inputs_in_range.fn, andi, cmpi, broadcastInDim, constantI] at e
    exact seg_word _ e
  tok j := Row.finite_of_cmp _ (congrFun (h d).2.2.1 j)
  se j := Row.finite_of_cmp _ (congrFun (h d).2.2.2 j)

/-- From equal arguments the two programs end with one result. -/
theorem equal_results : Cert.algebraic_KernelIdeal_ReferenceIdeal_pre_inputs_in_range := fun m g m' g' h hm =>
  ⟨fun c => Cert.Proof.Gather.V4 m c Cert.KernelIdeal.main_v11,
    (θ_run Cert.KernelIdeal.defs _ _).mono (fun _ h => h.1) (Cert.Proof.Gather.run_frame (F := Ideal) m g (ok_ideal_all m h)),
    (θ_run Cert.ReferenceIdeal.defs _ _).mono
      (fun _ hr c => ⟨(hr c).1.trans (results_eq m m' c (ok_ideal_all m h) (num_ok m h c) (hm c).1 (hm c).2.1 (hm c).2.2.1 (hm c).2.2.2.1
        (hm c).2.2.2.2.1 (hm c).2.2.2.2.2.1 (hm c).2.2.2.2.2.2), (hr c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_tokens_in_vocab.Gen.facts, Cert.Pre_inputs_in_range.Gen.facts,
  frame_kernel, frame_ideal, frame_ideal_all, frame_reference, frame_reference_all, trivial, equal_results⟩

end Cert.Proof

end
